-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S128x3x32x64 : Shape := ⟨4, ![128, 3, 32, 64]⟩
abbrev S128x3x4x64 : Shape := ⟨4, ![128, 3, 4, 64]⟩
abbrev S128x4096x4x64 : Shape := ⟨4, ![128, 4096, 4, 64]⟩
abbrev S128x4x64 : Shape := ⟨3, ![128, 4, 64]⟩
abbrev S128x4096x4 : Shape := ⟨3, ![128, 4096, 4]⟩
abbrev S128 : Shape := ⟨1, ![128]⟩
abbrev S_ : Shape := ⟨0, ![]⟩

class Facts : Prop where
  bcast_S_S128x4x64 : S_.BroadcastsInDim S128x4x64 (![] : Fin 0 → Fin S128x4x64.rank)
  bitsLt_bf16_f32 : FTy.bits .bf16 < FTy.bits .f32
  bcast_S_S128x3x4x64 : S_.BroadcastsInDim S128x3x4x64 (![] : Fin 0 → Fin S128x3x4x64.rank)
  reducesTo_S128x4x64_S_d0_1_2 : S128x4x64.ReducesTo [0, 1, 2] S_
  h_S_ : 0 < S_.numel
  reducesTo_S128x3x4x64_S_d0_1_2_3 : S128x3x4x64.ReducesTo [0, 1, 2, 3] S_

variable [Facts]

def fn {F : FTy → Type} [FloatOps F] (main_arg0 : FVec F S128x3x32x64 .bf16) (main_arg1 : FVec F S128x3x4x64 .bf16) (main_arg2 : FVec F S128x3x4x64 .bf16) (main_arg3 : FVec F S128x4096x4x64 .fp8e4m3) (main_arg4 : FVec F S128x4x64 .f32) (main_arg5 : FVec F S128x4096x4x64 .fp8e4m3) (main_arg6 : FVec F S128x4096x4 .f32) (main_arg7 : IVec S128 32) : IVec S_ 1 :=
  let main_cst : FVec F S_ .f32 := constant S_ .f32 0x00000000#32
  let main_v0 : FVec F S128x4x64 .f32 := broadcastInDim S128x4x64 ![] bcast_S_S128x4x64 main_cst
  let main_v1 : IVec S128x4x64 1 := cmpf .oge main_arg4 main_v0
  let main_cst_0 : FVec F S_ .f32 := constant S_ .f32 0x7F000000#32
  let main_v2 : FVec F S128x4x64 .f32 := broadcastInDim S128x4x64 ![] bcast_S_S128x4x64 main_cst_0
  let main_v3 : IVec S128x4x64 1 := cmpf .olt main_arg4 main_v2
  let main_v4 : IVec S128x4x64 1 := andi main_v1 main_v3
  let main_v5 : FVec F S128x3x4x64 .f32 := (extf .f32 · bitsLt_bf16_f32) main_arg2
  let main_v6 : FVec F S128x3x4x64 .f32 := Host.absf main_v5
  let main_cst_1 : FVec F S_ .f32 := constant S_ .f32 0x7F7F0000#32
  let main_v7 : FVec F S128x3x4x64 .f32 := broadcastInDim S128x3x4x64 ![] bcast_S_S128x3x4x64 main_cst_1
  let main_v8 : IVec S128x3x4x64 1 := cmpf .ole main_v6 main_v7
  let main_c : IVec S_ 1 := constantI S_ 1 1#1
  let main_v9 : IVec S_ 1 := (fun x v => Host.reduce IntOp.andi x v reducesTo_S128x4x64_S_d0_1_2 h_S_) main_v4 main_c
  let main_c_2 : IVec S_ 1 := constantI S_ 1 1#1
  let main_v10 : IVec S_ 1 := (fun x v => Host.reduce IntOp.andi x v reducesTo_S128x3x4x64_S_d0_1_2_3 h_S_) main_v8 main_c_2
  let main_v11 : IVec S_ 1 := andi main_v9 main_v10
  main_v11
-- ==== Kernel.lean ====
abbrev S128x3x32x64 : Shape := ⟨4, ![128, 3, 32, 64]⟩
abbrev S128x3x4x64 : Shape := ⟨4, ![128, 3, 4, 64]⟩
abbrev S128x4096x4x64 : Shape := ⟨4, ![128, 4096, 4, 64]⟩
abbrev S128x4x64 : Shape := ⟨3, ![128, 4, 64]⟩
abbrev S128x4096x4 : Shape := ⟨3, ![128, 4096, 4]⟩
abbrev S128 : Shape := ⟨1, ![128]⟩
abbrev S128x4x64x4096 : Shape := ⟨4, ![128, 4, 64, 4096]⟩
abbrev S128x256x4096 : Shape := ⟨3, ![128, 256, 4096]⟩
abbrev S128x4x4096 : Shape := ⟨3, ![128, 4, 4096]⟩
abbrev S128x96x64 : Shape := ⟨3, ![128, 96, 64]⟩
abbrev S128x3x256 : Shape := ⟨3, ![128, 3, 256]⟩
abbrev S128x1x256 : Shape := ⟨3, ![128, 1, 256]⟩
abbrev S128x3x4 : Shape := ⟨3, ![128, 3, 4]⟩
abbrev S1x96x64 : Shape := ⟨3, ![1, 96, 64]⟩
abbrev S1x3x256 : Shape := ⟨3, ![1, 3, 256]⟩
abbrev S1x1x256 : Shape := ⟨3, ![1, 1, 256]⟩
abbrev S1x256x4096 : Shape := ⟨3, ![1, 256, 4096]⟩
abbrev S1x4x4096 : Shape := ⟨3, ![1, 4, 4096]⟩
abbrev S1x3x4 : Shape := ⟨3, ![1, 3, 4]⟩
abbrev S1 : Shape := ⟨1, ![1]⟩
abbrev S1x256 : Shape := ⟨2, ![1, 256]⟩
abbrev S3x256 : Shape := ⟨2, ![3, 256]⟩
abbrev S3x64 : Shape := ⟨2, ![3, 64]⟩
abbrev S3 : Shape := ⟨1, ![3]⟩
abbrev S3x1 : Shape := ⟨2, ![3, 1]⟩
abbrev S3x4 : Shape := ⟨2, ![3, 4]⟩
abbrev S96x256 : Shape := ⟨2, ![96, 256]⟩
abbrev S96x64 : Shape := ⟨2, ![96, 64]⟩
abbrev S256x4096 : Shape := ⟨2, ![256, 4096]⟩
abbrev S96x4096 : Shape := ⟨2, ![96, 4096]⟩
abbrev S96x3 : Shape := ⟨2, ![96, 3]⟩
abbrev S96 : Shape := ⟨1, ![96]⟩
abbrev S96x1 : Shape := ⟨2, ![96, 1]⟩
abbrev S4x4096 : Shape := ⟨2, ![4, 4096]⟩
abbrev S1x4096 : Shape := ⟨2, ![1, 4096]⟩
abbrev S8x4096 : Shape := ⟨2, ![8, 4096]⟩
abbrev S4x3 : Shape := ⟨2, ![4, 3]⟩
abbrev S1x3 : Shape := ⟨2, ![1, 3]⟩
abbrev S8x3 : Shape := ⟨2, ![8, 3]⟩

abbrev nBuf : Space → Nat
  | .hbm => 20
  | .vmem => 22
  | .smem => 1
  | _ => 0

abbrev bufTy : (tb : Table) → Fin (tcTables nBuf tb) → BufTy
  | .hbm, ⟨0, _⟩ => ⟨S128x3x32x64, .bf16⟩
  | .hbm, ⟨1, _⟩ => ⟨S128x3x4x64, .bf16⟩
  | .hbm, ⟨2, _⟩ => ⟨S128x3x4x64, .bf16⟩
  | .hbm, ⟨3, _⟩ => ⟨S128x4096x4x64, .fp8e4m3⟩
  | .hbm, ⟨4, _⟩ => ⟨S128x4x64, .f32⟩
  | .hbm, ⟨5, _⟩ => ⟨S128x4096x4x64, .fp8e4m3⟩
  | .hbm, ⟨6, _⟩ => ⟨S128x4096x4, .f32⟩
  | .hbm, ⟨7, _⟩ => ⟨S128x4x64x4096, .fp8e4m3⟩
  | .hbm, ⟨8, _⟩ => ⟨S128x256x4096, .fp8e4m3⟩
  | .hbm, ⟨9, _⟩ => ⟨S128x4x64x4096, .fp8e4m3⟩
  | .hbm, ⟨10, _⟩ => ⟨S128x256x4096, .fp8e4m3⟩
  | .hbm, ⟨11, _⟩ => ⟨S128x4x4096, .f32⟩
  | .hbm, ⟨12, _⟩ => ⟨S128x96x64, .bf16⟩
  | .hbm, ⟨13, _⟩ => ⟨S128x3x256, .bf16⟩
  | .hbm, ⟨14, _⟩ => ⟨S128x3x256, .bf16⟩
  | .hbm, ⟨15, _⟩ => ⟨S128x1x256, .f32⟩
  | .hbm, ⟨16, _⟩ => ⟨S128x96x64, .bf16⟩
  | .hbm, ⟨17, _⟩ => ⟨S128x3x256, .fp8e4m3⟩
  | .hbm, ⟨18, _⟩ => ⟨S128x3x256, .fp8e4m3⟩
  | .hbm, ⟨19, _⟩ => ⟨S128x3x4, .f32⟩
  | .local _ .vmem, ⟨0, _⟩ => ⟨S1x96x64, .bf16⟩
  | .local _ .vmem, ⟨1, _⟩ => ⟨S1x96x64, .bf16⟩
  | .local _ .vmem, ⟨2, _⟩ => ⟨S1x3x256, .bf16⟩
  | .local _ .vmem, ⟨3, _⟩ => ⟨S1x3x256, .bf16⟩
  | .local _ .vmem, ⟨4, _⟩ => ⟨S1x3x256, .bf16⟩
  | .local _ .vmem, ⟨5, _⟩ => ⟨S1x3x256, .bf16⟩
  | .local _ .vmem, ⟨6, _⟩ => ⟨S1x1x256, .f32⟩
  | .local _ .vmem, ⟨7, _⟩ => ⟨S1x1x256, .f32⟩
  | .local _ .vmem, ⟨8, _⟩ => ⟨S1x256x4096, .fp8e4m3⟩
  | .local _ .vmem, ⟨9, _⟩ => ⟨S1x256x4096, .fp8e4m3⟩
  | .local _ .vmem, ⟨10, _⟩ => ⟨S1x256x4096, .fp8e4m3⟩
  | .local _ .vmem, ⟨11, _⟩ => ⟨S1x256x4096, .fp8e4m3⟩
  | .local _ .vmem, ⟨12, _⟩ => ⟨S1x4x4096, .f32⟩
  | .local _ .vmem, ⟨13, _⟩ => ⟨S1x4x4096, .f32⟩
  | .local _ .vmem, ⟨14, _⟩ => ⟨S1x96x64, .bf16⟩
  | .local _ .vmem, ⟨15, _⟩ => ⟨S1x96x64, .bf16⟩
  | .local _ .vmem, ⟨16, _⟩ => ⟨S1x3x256, .fp8e4m3⟩
  | .local _ .vmem, ⟨17, _⟩ => ⟨S1x3x256, .fp8e4m3⟩
  | .local _ .vmem, ⟨18, _⟩ => ⟨S1x3x256, .fp8e4m3⟩
  | .local _ .vmem, ⟨19, _⟩ => ⟨S1x3x256, .fp8e4m3⟩
  | .local _ .vmem, ⟨20, _⟩ => ⟨S1x3x4, .f32⟩
  | .local _ .vmem, ⟨21, _⟩ => ⟨S1x3x4, .f32⟩
  | .local _ .smem, ⟨0, _⟩ => ⟨S128, .i32⟩
  | _, _ => ⟨S128x3x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x96x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S128x3x32x64 : Shape := ⟨4, ![128, 3, 32, 64]⟩
abbrev S128x3x4x64 : Shape := ⟨4, ![128, 3, 4, 64]⟩
abbrev S128x4096x4x64 : Shape := ⟨4, ![128, 4096, 4, 64]⟩
abbrev S128x4x64 : Shape := ⟨3, ![128, 4, 64]⟩
abbrev S128x4096x4 : Shape := ⟨3, ![128, 4096, 4]⟩
abbrev S128 : Shape := ⟨1, ![128]⟩
abbrev S128x96x64 : Shape := ⟨3, ![128, 96, 64]⟩
abbrev S128x3x256 : Shape := ⟨3, ![128, 3, 256]⟩
abbrev S128x3x4 : Shape := ⟨3, ![128, 3, 4]⟩
abbrev S128x4x64x254 : Shape := ⟨4, ![128, 4, 64, 254]⟩
abbrev S128x4x64x1 : Shape := ⟨4, ![128, 4, 64, 1]⟩
abbrev S128x1x4x64 : Shape := ⟨4, ![128, 1, 4, 64]⟩
abbrev S128x3x4x254 : Shape := ⟨4, ![128, 3, 4, 254]⟩
abbrev S128x3x4x1 : Shape := ⟨4, ![128, 3, 4, 1]⟩
abbrev S128x3x4x8x64 : Shape := ⟨5, ![128, 3, 4, 8, 64]⟩
abbrev S128x1x4x1x64 : Shape := ⟨5, ![128, 1, 4, 1, 64]⟩
abbrev S128x4x4096x3x8 : Shape := ⟨5, ![128, 4, 4096, 3, 8]⟩
abbrev S128x3x4x8x4096 : Shape := ⟨5, ![128, 3, 4, 8, 4096]⟩
abbrev S1x4096 : Shape := ⟨2, ![1, 4096]⟩
abbrev S4096 : Shape := ⟨1, ![4096]⟩
abbrev S128x1 : Shape := ⟨2, ![128, 1]⟩
abbrev S128x4096 : Shape := ⟨2, ![128, 4096]⟩
abbrev S128x1x1x1x4096 : Shape := ⟨5, ![128, 1, 1, 1, 4096]⟩
abbrev S128x4x3x3x8 : Shape := ⟨5, ![128, 4, 3, 3, 8]⟩
abbrev S128x3x4x8x3 : Shape := ⟨5, ![128, 3, 4, 8, 3]⟩
abbrev S1x3 : Shape := ⟨2, ![1, 3]⟩
abbrev S3 : Shape := ⟨1, ![3]⟩
abbrev S3x1 : Shape := ⟨2, ![3, 1]⟩
abbrev S3x3 : Shape := ⟨2, ![3, 3]⟩
abbrev S1x3x1x1x3 : Shape := ⟨5, ![1, 3, 1, 1, 3]⟩
abbrev S128x3x4x8 : Shape := ⟨4, ![128, 3, 4, 8]⟩
abbrev S128x3x4x8x1 : Shape := ⟨5, ![128, 3, 4, 8, 1]⟩
abbrev S128x4x4096 : Shape := ⟨3, ![128, 4, 4096]⟩
abbrev S128x1x4x1x4096 : Shape := ⟨5, ![128, 1, 4, 1, 4096]⟩
abbrev S128x4x3 : Shape := ⟨3, ![128, 4, 3]⟩
abbrev S128x1x4x1x3 : Shape := ⟨5, ![128, 1, 4, 1, 3]⟩
abbrev S128x4x64x3x8 : Shape := ⟨5, ![128, 4, 64, 3, 8]⟩

abbrev nBuf : Space → Nat
  | .hbm => 12
  | .vmem => 12
  | .smem => 0
  | _ => 0

abbrev bufTy : (tb : Table) → Fin (tcTables nBuf tb) → BufTy
  | .hbm, ⟨0, _⟩ => ⟨S128x3x32x64, .bf16⟩
  | .hbm, ⟨1, _⟩ => ⟨S128x3x4x64, .bf16⟩
  | .hbm, ⟨2, _⟩ => ⟨S128x3x4x64, .bf16⟩
  | .hbm, ⟨3, _⟩ => ⟨S128x4096x4x64, .fp8e4m3⟩
  | .hbm, ⟨4, _⟩ => ⟨S128x4x64, .f32⟩
  | .hbm, ⟨5, _⟩ => ⟨S128x4096x4x64, .fp8e4m3⟩
  | .hbm, ⟨6, _⟩ => ⟨S128x4096x4, .f32⟩
  | .hbm, ⟨7, _⟩ => ⟨S128, .i32⟩
  | .hbm, ⟨8, _⟩ => ⟨S128x96x64, .bf16⟩
  | .hbm, ⟨9, _⟩ => ⟨S128x3x256, .fp8e4m3⟩
  | .hbm, ⟨10, _⟩ => ⟨S128x3x256, .fp8e4m3⟩
  | .hbm, ⟨11, _⟩ => ⟨S128x3x4, .f32⟩
  | .local _ .vmem, ⟨0, _⟩ => ⟨S128x3x32x64, .bf16⟩
  | .local _ .vmem, ⟨1, _⟩ => ⟨S128x3x4x64, .bf16⟩
  | .local _ .vmem, ⟨2, _⟩ => ⟨S128x3x4x64, .bf16⟩
  | .local _ .vmem, ⟨3, _⟩ => ⟨S128x4096x4x64, .fp8e4m3⟩
  | .local _ .vmem, ⟨4, _⟩ => ⟨S128x4x64, .f32⟩
  | .local _ .vmem, ⟨5, _⟩ => ⟨S128x4096x4x64, .fp8e4m3⟩
  | .local _ .vmem, ⟨6, _⟩ => ⟨S128x4096x4, .f32⟩
  | .local _ .vmem, ⟨7, _⟩ => ⟨S128, .i32⟩
  | .local _ .vmem, ⟨8, _⟩ => ⟨S128x96x64, .bf16⟩
  | .local _ .vmem, ⟨9, _⟩ => ⟨S128x3x256, .fp8e4m3⟩
  | .local _ .vmem, ⟨10, _⟩ => ⟨S128x3x256, .fp8e4m3⟩
  | .local _ .vmem, ⟨11, _⟩ => ⟨S128x3x4, .f32⟩
  | _, _ => ⟨S128x3x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S128x3x32x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x3x4x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x3x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4096x4x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x4096x4x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x4096x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x96x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x3x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x3x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x3x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Entry.lean ====
module

public import proofs.«01_k».proof.Proof.Gen.KernelIdeal.Frame
public import Idealize.ShloMosaic.Lib.Pointwise
public import Idealize.ShloMosaic.Lib.StableHlo.ReadAt

/-! The arrays the kernel's blocks are cut from, entry by entry: each is an argument with its axes merged or moved. -/

@[expose] public section

set_option maxRecDepth 16384

noncomputable section

namespace Cert.KernelIdeal.Entry

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD) (b : Fin 128)

/-- The queries, new positions and heads merged. -/
theorem v5_at (s : Fin 3) (kv : Fin 4) (g : Fin 8) (d : Fin 64) :
    V m c main_v5 (ix3 b (⟨s.val * 32 + kv.val * 8 + g.val, by omega⟩ : Fin 96) d)
      = m ((c : Thread nD τ).loc main_arg0) (ix4 b s (⟨kv.val * 8 + g.val, by omega⟩ : Fin 32) d) := by
  unfold V
  after_reads_at
  refine congrArg _ (congrArg (fun x => ix4 b s x d) (Fin.ext ?_))
  show (s.val * 32 + kv.val * 8 + g.val) % 32 = kv.val * 8 + g.val
  omega

/-- The new keys, heads and places merged. -/
theorem v6_at (t : Fin 3) (kv : Fin 4) (d : Fin 64) :
    V m c main_v6 (ix3 b t (⟨kv.val * 64 + d.val, by omega⟩ : Fin 256)) = m ((c : Thread nD τ).loc main_arg1) (ix4 b t kv d) := by
  unfold V
  after_reads_at

/-- The new values, heads and places merged. -/
theorem v7_at (t : Fin 3) (kv : Fin 4) (d : Fin 64) :
    V m c main_v7 (ix3 b t (⟨kv.val * 64 + d.val, by omega⟩ : Fin 256)) = m ((c : Thread nD τ).loc main_arg2) (ix4 b t kv d) := by
  unfold V
  after_reads_at

/-- The cached keys, heads and places merged and before the positions. -/
theorem v1_at (p : Fin 4096) (kv : Fin 4) (d : Fin 64) :
    V m c main_v1 (ix3 b (⟨kv.val * 64 + d.val, by omega⟩ : Fin 256) p) = m ((c : Thread nD τ).loc main_arg3) (ix4 b p kv d) := by
  unfold V
  after_reads_at

/-- The cached values, heads and places merged and before the positions. -/
theorem v3_at (p : Fin 4096) (kv : Fin 4) (d : Fin 64) :
    V m c main_v3 (ix3 b (⟨kv.val * 64 + d.val, by omega⟩ : Fin 256) p) = m ((c : Thread nD τ).loc main_arg5) (ix4 b p kv d) := by
  unfold V
  after_reads_at

/-- The cached value scales, heads before the positions. -/
theorem v4_at (p : Fin 4096) (kv : Fin 4) :
    V m c main_v4 (ix3 b kv p) = m ((c : Thread nD τ).loc main_arg6) (ix3 b p kv) := by
  unfold V
  after_reads_at

/-- The key scales, heads and places merged. -/
theorem v8_at (kv : Fin 4) (d : Fin 64) :
    V m c main_v8 (ix3 b (0 : Fin 1) (⟨kv.val * 64 + d.val, by omega⟩ : Fin 256)) = m ((c : Thread nD τ).loc main_arg4) (ix3 b kv d) := by
  unfold V
  after_reads_at

variable (hO : Ok m) (t : Fin (cfgM m hO).grid.N)

/-- The word of a point's coordinate is the point's number. -/
theorem coord_word : ∀ t : Fin grid0.N, (BitVec.ofNat 32 ((grid0.coords t) 0).val).toNat = t.val := by decide +kernel

/-- The queries' block at point `t` is batch entry `t`. -/
theorem blk0_at (r : Fin 96) (d : Fin 64) :
    iblk m hO c 0 t (ix3 (0 : Fin 1) r d) = V m c main_v5 (ix3 (⟨t.val, t.isLt⟩ : Fin 128) r d) := by
  unfold iblk
  show V m c main_v5 _ = _
  congr 1
  funext a
  apply Fin.ext
  match a with
  | ⟨0, _⟩ =>
    show (BitVec.ofNat 32 ((grid0.coords t) 0).val).toNat * 1 + 1 * 0 = t.val
    rw [coord_word]; omega
  | ⟨1, _⟩ =>
    show 0 * 96 + 1 * r.val = r.val
    omega
  | ⟨2, _⟩ =>
    show 0 * 64 + 1 * d.val = d.val
    omega

/-- The new keys' block at point `t` is batch entry `t`. -/
theorem blk1_at (r : Fin 3) (d : Fin 256) :
    iblk m hO c 1 t (ix3 (0 : Fin 1) r d) = V m c main_v6 (ix3 (⟨t.val, t.isLt⟩ : Fin 128) r d) := by
  unfold iblk
  show V m c main_v6 _ = _
  congr 1
  funext a
  apply Fin.ext
  match a with
  | ⟨0, _⟩ =>
    show (BitVec.ofNat 32 ((grid0.coords t) 0).val).toNat * 1 + 1 * 0 = t.val
    rw [coord_word]; omega
  | ⟨1, _⟩ =>
    show 0 * 3 + 1 * r.val = r.val
    omega
  | ⟨2, _⟩ =>
    show 0 * 256 + 1 * d.val = d.val
    omega

/-- The new values' block at point `t` is batch entry `t`. -/
theorem blk2_at (r : Fin 3) (d : Fin 256) :
    iblk m hO c 2 t (ix3 (0 : Fin 1) r d) = V m c main_v7 (ix3 (⟨t.val, t.isLt⟩ : Fin 128) r d) := by
  unfold iblk
  show V m c main_v7 _ = _
  congr 1
  funext a
  apply Fin.ext
  match a with
  | ⟨0, _⟩ =>
    show (BitVec.ofNat 32 ((grid0.coords t) 0).val).toNat * 1 + 1 * 0 = t.val
    rw [coord_word]; omega
  | ⟨1, _⟩ =>
    show 0 * 3 + 1 * r.val = r.val
    omega
  | ⟨2, _⟩ =>
    show 0 * 256 + 1 * d.val = d.val
    omega

/-- The key scales' block at point `t` is batch entry `t`. -/
theorem blk3_at (r : Fin 1) (d : Fin 256) :
    iblk m hO c 3 t (ix3 (0 : Fin 1) r d) = V m c main_v8 (ix3 (⟨t.val, t.isLt⟩ : Fin 128) r d) := by
  unfold iblk
  show V m c main_v8 _ = _
  congr 1
  funext a
  apply Fin.ext
  match a with
  | ⟨0, _⟩ =>
    show (BitVec.ofNat 32 ((grid0.coords t) 0).val).toNat * 1 + 1 * 0 = t.val
    rw [coord_word]; omega
  | ⟨1, _⟩ =>
    show 0 * 1 + 1 * r.val = r.val
    omega
  | ⟨2, _⟩ =>
    show 0 * 256 + 1 * d.val = d.val
    omega

/-- The cached keys' block at point `t` is batch entry `t`. -/
theorem blk4_at (r : Fin 256) (d : Fin 4096) :
    iblk m hO c 4 t (ix3 (0 : Fin 1) r d) = V m c main_v1 (ix3 (⟨t.val, t.isLt⟩ : Fin 128) r d) := by
  unfold iblk
  show V m c main_v1 _ = _
  congr 1
  funext a
  apply Fin.ext
  match a with
  | ⟨0, _⟩ =>
    show (BitVec.ofNat 32 ((grid0.coords t) 0).val).toNat * 1 + 1 * 0 = t.val
    rw [coord_word]; omega
  | ⟨1, _⟩ =>
    show 0 * 256 + 1 * r.val = r.val
    omega
  | ⟨2, _⟩ =>
    show 0 * 4096 + 1 * d.val = d.val
    omega

/-- The cached values' block at point `t` is batch entry `t`. -/
theorem blk5_at (r : Fin 256) (d : Fin 4096) :
    iblk m hO c 5 t (ix3 (0 : Fin 1) r d) = V m c main_v3 (ix3 (⟨t.val, t.isLt⟩ : Fin 128) r d) := by
  unfold iblk
  show V m c main_v3 _ = _
  congr 1
  funext a
  apply Fin.ext
  match a with
  | ⟨0, _⟩ =>
    show (BitVec.ofNat 32 ((grid0.coords t) 0).val).toNat * 1 + 1 * 0 = t.val
    rw [coord_word]; omega
  | ⟨1, _⟩ =>
    show 0 * 256 + 1 * r.val = r.val
    omega
  | ⟨2, _⟩ =>
    show 0 * 4096 + 1 * d.val = d.val
    omega

/-- The value scales' block at point `t` is batch entry `t`. -/
theorem blk6_at (r : Fin 4) (d : Fin 4096) :
    iblk m hO c 6 t (ix3 (0 : Fin 1) r d) = V m c main_v4 (ix3 (⟨t.val, t.isLt⟩ : Fin 128) r d) := by
  unfold iblk
  show V m c main_v4 _ = _
  congr 1
  funext a
  apply Fin.ext
  match a with
  | ⟨0, _⟩ =>
    show (BitVec.ofNat 32 ((grid0.coords t) 0).val).toNat * 1 + 1 * 0 = t.val
    rw [coord_word]; omega
  | ⟨1, _⟩ =>
    show 0 * 4 + 1 * r.val = r.val
    omega
  | ⟨2, _⟩ =>
    show 0 * 4096 + 1 * d.val = d.val
    omega

/-- Where point `t`'s block of the attention's result lies. -/
theorem emb7 (x : Fin 1) (r : Fin 96) (d : Fin 64) :
    (((cfgM m hO).win 7).blk t).view.emb (ix3 x r d) = (ix3 (⟨t.val, t.isLt⟩ : Fin 128) r d : S128x96x64.Idx) := by
  funext a
  apply Fin.ext
  match a with
  | ⟨0, _⟩ =>
    show (BitVec.ofNat 32 ((grid0.coords t) 0).val).toNat * 1 + 1 * x.val = t.val
    rw [coord_word]; omega
  | ⟨1, _⟩ =>
    show 0 * 96 + 1 * r.val = r.val
    omega
  | ⟨2, _⟩ =>
    show 0 * 64 + 1 * d.val = d.val
    omega

/-- The points' blocks cover the array of the attention's result. -/
theorem cover7 (i : S128x96x64.Idx) :
    ∃ t : Fin (cfgM m hO).grid.N, ((cfgM m hO).win 7).flush t = true ∧ i ∈ (((cfgM m hO).win 7).blk t).view.set := by
  let t0 : Fin (cfgM m hO).grid.N := ⟨(i 0).val, (i 0).isLt⟩
  refine ⟨t0, flush0_7 _ t0, ?_⟩
  have h := (((cfgM m hO).win 7).blk t0).view.emb_mem_set (ix3 (0 : Fin 1) (i 1) (i 2))
  have e : (((cfgM m hO).win 7).blk t0).view.emb (ix3 (0 : Fin 1) (i 1) (i 2)) = i := (emb7 m hO t0 0 (i 1) (i 2)).trans (eq_ix3 i).symm
  exact Eq.mp (congrArg (fun j : S128x96x64.Idx => j ∈ (((cfgM m hO).win 7).blk t0).view.set) e) h

/-- Where point `t`'s block of the key codes lies. -/
theorem emb8 (x : Fin 1) (r : Fin 3) (d : Fin 256) :
    (((cfgM m hO).win 8).blk t).view.emb (ix3 x r d) = (ix3 (⟨t.val, t.isLt⟩ : Fin 128) r d : S128x3x256.Idx) := by
  funext a
  apply Fin.ext
  match a with
  | ⟨0, _⟩ =>
    show (BitVec.ofNat 32 ((grid0.coords t) 0).val).toNat * 1 + 1 * x.val = t.val
    rw [coord_word]; omega
  | ⟨1, _⟩ =>
    show 0 * 3 + 1 * r.val = r.val
    omega
  | ⟨2, _⟩ =>
    show 0 * 256 + 1 * d.val = d.val
    omega

/-- The points' blocks cover the array of the key codes. -/
theorem cover8 (i : S128x3x256.Idx) :
    ∃ t : Fin (cfgM m hO).grid.N, ((cfgM m hO).win 8).flush t = true ∧ i ∈ (((cfgM m hO).win 8).blk t).view.set := by
  let t0 : Fin (cfgM m hO).grid.N := ⟨(i 0).val, (i 0).isLt⟩
  refine ⟨t0, flush0_8 _ t0, ?_⟩
  have h := (((cfgM m hO).win 8).blk t0).view.emb_mem_set (ix3 (0 : Fin 1) (i 1) (i 2))
  have e : (((cfgM m hO).win 8).blk t0).view.emb (ix3 (0 : Fin 1) (i 1) (i 2)) = i := (emb8 m hO t0 0 (i 1) (i 2)).trans (eq_ix3 i).symm
  exact Eq.mp (congrArg (fun j : S128x3x256.Idx => j ∈ (((cfgM m hO).win 8).blk t0).view.set) e) h

/-- Where point `t`'s block of the value codes lies. -/
theorem emb9 (x : Fin 1) (r : Fin 3) (d : Fin 256) :
    (((cfgM m hO).win 9).blk t).view.emb (ix3 x r d) = (ix3 (⟨t.val, t.isLt⟩ : Fin 128) r d : S128x3x256.Idx) := by
  funext a
  apply Fin.ext
  match a with
  | ⟨0, _⟩ =>
    show (BitVec.ofNat 32 ((grid0.coords t) 0).val).toNat * 1 + 1 * x.val = t.val
    rw [coord_word]; omega
  | ⟨1, _⟩ =>
    show 0 * 3 + 1 * r.val = r.val
    omega
  | ⟨2, _⟩ =>
    show 0 * 256 + 1 * d.val = d.val
    omega

/-- The points' blocks cover the array of the value codes. -/
theorem cover9 (i : S128x3x256.Idx) :
    ∃ t : Fin (cfgM m hO).grid.N, ((cfgM m hO).win 9).flush t = true ∧ i ∈ (((cfgM m hO).win 9).blk t).view.set := by
  let t0 : Fin (cfgM m hO).grid.N := ⟨(i 0).val, (i 0).isLt⟩
  refine ⟨t0, flush0_9 _ t0, ?_⟩
  have h := (((cfgM m hO).win 9).blk t0).view.emb_mem_set (ix3 (0 : Fin 1) (i 1) (i 2))
  have e : (((cfgM m hO).win 9).blk t0).view.emb (ix3 (0 : Fin 1) (i 1) (i 2)) = i := (emb9 m hO t0 0 (i 1) (i 2)).trans (eq_ix3 i).symm
  exact Eq.mp (congrArg (fun j : S128x3x256.Idx => j ∈ (((cfgM m hO).win 9).blk t0).view.set) e) h

/-- Where point `t`'s block of the value scales lies. -/
theorem emb10 (x : Fin 1) (r : Fin 3) (d : Fin 4) :
    (((cfgM m hO).win 10).blk t).view.emb (ix3 x r d) = (ix3 (⟨t.val, t.isLt⟩ : Fin 128) r d : S128x3x4.Idx) := by
  funext a
  apply Fin.ext
  match a with
  | ⟨0, _⟩ =>
    show (BitVec.ofNat 32 ((grid0.coords t) 0).val).toNat * 1 + 1 * x.val = t.val
    rw [coord_word]; omega
  | ⟨1, _⟩ =>
    show 0 * 3 + 1 * r.val = r.val
    omega
  | ⟨2, _⟩ =>
    show 0 * 4 + 1 * d.val = d.val
    omega

/-- The points' blocks cover the array of the value scales. -/
theorem cover10 (i : S128x3x4.Idx) :
    ∃ t : Fin (cfgM m hO).grid.N, ((cfgM m hO).win 10).flush t = true ∧ i ∈ (((cfgM m hO).win 10).blk t).view.set := by
  let t0 : Fin (cfgM m hO).grid.N := ⟨(i 0).val, (i 0).isLt⟩
  refine ⟨t0, flush0_10 _ t0, ?_⟩
  have h := (((cfgM m hO).win 10).blk t0).view.emb_mem_set (ix3 (0 : Fin 1) (i 1) (i 2))
  have e : (((cfgM m hO).win 10).blk t0).view.emb (ix3 (0 : Fin 1) (i 1) (i 2)) = i := (emb10 m hO t0 0 (i 1) (i 2)).trans (eq_ix3 i).symm
  exact Eq.mp (congrArg (fun j : S128x3x4.Idx => j ∈ (((cfgM m hO).win 10).blk t0).view.set) e) h

end Cert.KernelIdeal.Entry

end
-- ==== Proof.Block.lean ====
module

public import proofs.«01_k».proof.Proof.Gen.KernelIdeal.Frame
public import Idealize.ShloMosaic.Lib.Pipeline.Value
public import Idealize.ShloMosaic.Lib.Pipeline.ValueKit.Tiles
public import Idealize.ShloMosaic.Lib.Pointwise

/-! What one grid step of the kernel leaves in its four output blocks, as functions of the seven input blocks and of
the length word read from the prefetched table. -/

@[expose] public section

set_option maxRecDepth 16384

noncomputable section

namespace Cert.KernelIdeal.Block

open Idealize.ShloMosaic Idealize.ShloMosaic.TcCoe Idealize.ShloMosaic.Tactic Idealize.SL.Sem
open Cert.KernelIdeal Cert.KernelIdeal.Gen
open Idealize.ShloMosaic.Pipeline (Dat)

variable {F : FTy → Type} [FloatOps F]

section Composites

variable (n : BitVec 32) (x0 : Vec F S1x96x64 .bf16) (x1 x2 : Vec F S1x3x256 .bf16) (x3 : Vec F S1x1x256 .f32)
  (x4 x5 : Vec F S1x256x4096 .fp8e4m3) (x6 : Vec F S1x4x4096 .f32)

/-- The exponent field of the key scales, one per lane. -/
def kfield : IVec S1x256 32 :=
  k0_pay7 (k0_pay2 x3) (k0_pay4 x3) (k0_pay5 x3) (k0_pay6 x3)

/-- The codes of the new keys. -/
def kcode : FVec F S3x256 .fp8e4m3 := k0_pay9 (k0_pay3 x3) (kfield x3) (k0_pay8 (k0_pay2 x3)) x1

/-- The codes of the new keys as the block written back. -/
def kcodeOut : FVec F S1x3x256 .fp8e4m3 := k0_pay10 (k0_pay3 x3) (kfield x3) (k0_pay8 (k0_pay2 x3)) x1

/-- The exponents of the first head's new values. -/
def vexp0 : IVec S3x1 32 :=
  k0_pay17 (k0_pay13 x2) (k0_pay14 x2) (k0_pay15 (k0_pay13 x2) 0#32) (k0_pay16 (k0_pay13 x2) 0#32)

/-- The second head's field search, before its last step. -/
def vfield1 : IVec S3x1 32 := k0_pay26 (k0_pay22 (k0_pay11 x2)) (k0_pay24 (k0_pay11 x2)) (k0_pay25 (k0_pay11 x2)) 64#32

/-- The second head's last step. -/
def vfield1' : IVec S3x1 32 := k0_pay27 (k0_pay22 (k0_pay11 x2)) (k0_pay24 (k0_pay11 x2)) (k0_pay25 (k0_pay11 x2)) 64#32

/-- The third head's field. -/
def vfield2 : IVec S3x1 32 := k0_pay38 (k0_pay33 (k0_pay11 x2)) (k0_pay35 (k0_pay11 x2)) (k0_pay36 (k0_pay11 x2)) (k0_pay37 (k0_pay11 x2))

/-- The fourth head's field search, before its last step. -/
def vfield3 : IVec S3x1 32 := k0_pay49 (k0_pay44 (k0_pay11 x2)) k0_pay46 (k0_pay47 (k0_pay11 x2)) k0_pay48

/-- The fourth head's last step. -/
def vfield3' : IVec S3x1 32 := k0_pay50 (k0_pay44 (k0_pay11 x2)) k0_pay46 (k0_pay47 (k0_pay11 x2)) k0_pay48

/-- The first head's value codes. -/
def code0 : FVec F S3x64 .fp8e4m3 := k0_pay19 (k0_pay12 x2) (vexp0 x2) k0_pay18

/-- The first head's value scales. -/
def scale0 : FVec F S3x1 .f32 := k0_pay20 (vexp0 x2)

/-- The second head's value codes. -/
def code1 : FVec F S3x64 .fp8e4m3 :=
  k0_pay30 (k0_pay21 (k0_pay11 x2)) (k0_pay22 (k0_pay11 x2)) (k0_pay23 (k0_pay11 x2)) (vfield1 x2) (vfield1' x2) k0_pay28

/-- The second head's value scales. -/
def scale1 : FVec F S3x1 .f32 :=
  k0_pay31 (k0_pay22 (k0_pay11 x2)) (k0_pay23 (k0_pay11 x2)) (vfield1 x2) (vfield1' x2) k0_pay28

/-- The third head's value codes. -/
def code2 : FVec F S3x64 .fp8e4m3 :=
  k0_pay41 (k0_pay32 (k0_pay11 x2)) (k0_pay34 (k0_pay11 x2)) (vfield2 x2) (k0_pay39 (k0_pay33 (k0_pay11 x2)))

/-- The third head's value scales. -/
def scale2 : FVec F S3x1 .f32 :=
  k0_pay42 (k0_pay34 (k0_pay11 x2)) (vfield2 x2) (k0_pay39 (k0_pay33 (k0_pay11 x2)))

/-- The fourth head's exponents. -/
def vexp3 : IVec S3x1 32 :=
  k0_pay51 (k0_pay44 (k0_pay11 x2)) (k0_pay45 (k0_pay11 x2)) (vfield3 x2) (vfield3' x2)

/-- The fourth head's scaled values, before they are cut to the range of the codes. -/
def scaled3 : FVec F S3x64 .f32 :=
  k0_pay52 (k0_pay43 (k0_pay11 x2)) (k0_pay44 (k0_pay11 x2)) (k0_pay45 (k0_pay11 x2)) (vfield3 x2) (vfield3' x2)

/-- The codes of the new values. -/
def vcode : FVec F S3x256 .fp8e4m3 :=
  k0_pay53 (code0 x2) (code1 x2) (code2 x2) (scaled3 x2) (FloatOps.ofBits .f32 0xC3E00000#32) (FloatOps.ofBits .f32 0x43E00000#32)

/-- The codes of the new values as the block written back. -/
def vcodeOut : FVec F S1x3x256 .fp8e4m3 :=
  k0_pay55 (code0 x2) (code1 x2) (code2 x2) (scaled3 x2) (FloatOps.ofBits .f32 0xC3E00000#32) (FloatOps.ofBits .f32 0x43E00000#32)

/-- The scales of the new values. -/
def vscale : FVec F S3x4 .f32 := k0_pay54 (scale0 x2) (scale1 x2) (scale2 x2) (vexp3 x2)

/-- The scales of the new values as the block written back. -/
def vscaleOut : FVec F S1x3x4 .f32 := k0_pay56 (scale0 x2) (scale1 x2) (scale2 x2) (vexp3 x2)

/-- Which lanes belong to the head a row reads. -/
def own : IVec S96x256 1 := k0_pay60 (iota Kind.tc S96x256 32 [1] iota_S96x256_d1_w32) k0_pay57 k0_pay58 k0_pay59

/-- The key scales times the score scale. -/
def kscale : FVec F S1x256 .f32 := k0_pay61 (k0_pay2 x3)

/-- The scores against the cache. -/
def scores : FVec F S96x4096 .f32 := k0_pay63 n own (kscale x3) x0 x4

/-- The scores against the new keys, before the causal mask. -/
def rawNew : FVec F S96x3 .f32 := k0_pay64 (kcode x1 x3) own (kscale x3) x0

/-- The scores against the new keys. -/
def scoresNew : FVec F S96x3 .f32 := k0_pay68 (rawNew x0 x1 x3) k0_pay65 k0_pay66 k0_pay67

/-- The largest score of each row. -/
def rowMax : FVec F S96x1 .f32 := k0_pay69 (scores n x0 x3 x4) (rawNew x0 x1 x3) k0_pay65 k0_pay66 k0_pay67

/-- The exponentials of the cache scores. -/
def expOld : FVec F S96x4096 .f32 := k0_pay70 (scores n x0 x3 x4) (rawNew x0 x1 x3) k0_pay65 k0_pay66 k0_pay67

/-- The exponentials of the new scores. -/
def expNew : FVec F S96x3 .f32 := k0_pay71 (scores n x0 x3 x4) (rawNew x0 x1 x3) k0_pay65 k0_pay66 k0_pay67

/-- The sum of the exponentials. -/
def rowSum : FVec F S96x1 .f32 := k0_pay72 (scores n x0 x3 x4) (rawNew x0 x1 x3) k0_pay65 k0_pay66 k0_pay67

/-- The cache weights, each times its value scale. -/
def weights : FVec F S96x4096 .bf16 := k0_pay73 (scores n x0 x3 x4) (rawNew x0 x1 x3) k0_pay65 k0_pay66 k0_pay67 x6

/-- The attention output of one batch entry. -/
def attn : FVec F S1x96x64 .bf16 :=
  k0_pay1 (vcode x2) (vscale x2) own (expNew n x0 x1 x3 x4) (rowSum n x0 x1 x3 x4) (weights n x0 x1 x3 x4 x6)
    (k0_pay74 (vscale x2)) (k0_pay75 (vscale x2)) (k0_pay76 (vscale x2)) x5

end Composites

/-- The corner of every whole-block access. -/
theorem hz3 : (![0, 0, 0] : Fin 3 → Nat) = fun _ => 0 := funext fun a => by fin_cases a <;> rfl

section Outputs

variable (c : Dev nD) (i : grid0.Coords)
  (arg2 : Memref sig .tc .vmem S1x96x64 .bf16) (harg2 : arg2.IsWhole)
  (arg3 : Memref sig .tc .vmem S1x3x256 .bf16) (harg3 : arg3.IsWhole)
  (arg4 : Memref sig .tc .vmem S1x3x256 .bf16) (harg4 : arg4.IsWhole)
  (arg5 : Memref sig .tc .vmem S1x1x256 .f32) (harg5 : arg5.IsWhole)
  (arg6 : Memref sig .tc .vmem S1x256x4096 .fp8e4m3) (harg6 : arg6.IsWhole)
  (arg7 : Memref sig .tc .vmem S1x256x4096 .fp8e4m3) (harg7 : arg7.IsWhole)
  (arg8 : Memref sig .tc .vmem S1x4x4096 .f32) (harg8 : arg8.IsWhole)
  (arg9 : Memref sig .tc .vmem S1x96x64 .bf16) (harg9 : arg9.IsWhole)
  (arg10 : Memref sig .tc .vmem S1x3x256 .fp8e4m3) (harg10 : arg10.IsWhole)
  (arg11 : Memref sig .tc .vmem S1x3x256 .fp8e4m3) (harg11 : arg11.IsWhole)
  (arg12 : Memref sig .tc .vmem S1x3x4 .f32) (harg12 : arg12.IsWhole)
  (x0 : Vec F S1x96x64 .bf16) (x1 x2 : Vec F S1x3x256 .bf16) (x3 : Vec F S1x1x256 .f32)
  (x4 x5 : Vec F S1x256x4096 .fp8e4m3) (x6 : Vec F S1x4x4096 .f32) (xt0 : TbBuf0 (F := F) c tbM0_0)

/-- The length word a grid step reads: the entry of the table at the step's own index. -/
def lenAt : BitVec 32 :=
  (View.whole main_arg7).read (Elt F) xt0 (ix1 (⟨(i 0).val, (i 0).isLt⟩ : Fin 128))

/-- The word loaded from the table is that entry. -/
theorem ld_lenAt (inb) (h) :
    View.ld ((View.whole main_arg7).read (Elt F) xt0)
      (Rect.unit ![BitVec.toNat (Scalar.indexCast (BitVec.ofNat 32 (i 0 : Nat)))] ![1] inb) (Shape.Idx.first h)
      = lenAt c i xt0 := by
  refine View.ld_unit_apply_of _ _ _ _ _ _ fun a => ?_
  have hlt : (i 0).val < 128 := (i 0).isLt
  obtain rfl : a = (0 : Fin 1) := Subsingleton.elim (α := Fin 1) _ _
  show (i 0).val = BitVec.toNat (Scalar.indexCast (BitVec.ofNat 32 (i 0 : Nat))) + 0
  simp only [Scalar.indexCast, BitVec.toNat_ofNat]
  omega

/-- The attention block a grid step leaves. -/
theorem out_7 :
    out0_A_7 c i arg2 harg2 arg3 harg3 arg4 harg4 arg5 harg5 arg6 harg6 arg7 harg7 arg8 harg8 arg9 harg9 arg10 harg10 arg11 harg11 arg12 harg12 x0 x1 x2 x3 x4 x5 x6 xt0 =
      attn (lenAt c i xt0) x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 x0 x1 x2 x3 x4 x5 x6 xt0)]
  unfold kernelRun0_A
  dsimp only
  rw [View.canon_unit_zero hz3]
  sl_unfold_words
  simp only [View.readAt_eq_ld, harg2.read_unread, harg3.read_unread, harg4.read_unread, harg5.read_unread, harg6.read_unread, harg7.read_unread, harg8.read_unread, View.ld_unit_zero (S := S1x96x64) hz3, View.ld_unit_zero (S := S1x3x256) hz3, View.ld_unit_zero (S := S1x1x256) hz3, View.ld_unit_zero (S := S1x256x4096) hz3, View.ld_unit_zero (S := S1x4x4096) hz3]
  exact congrArg (fun n => attn n x0 x1 x2 x3 x4 x5 x6) (ld_lenAt c i xt0 (k0_off1_inb i) (show 0 < Shape.numel ⟨1, ![1]⟩ by decide))

/-- The key code block a grid step leaves. -/
theorem out_8 :
    out0_A_8 c i arg2 harg2 arg3 harg3 arg4 harg4 arg5 harg5 arg6 harg6 arg7 harg7 arg8 harg8 arg9 harg9 arg10 harg10 arg11 harg11 arg12 harg12 x0 x1 x2 x3 x4 x5 x6 xt0 =
      kcodeOut x1 x3 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6 xt0)]
  unfold kernelRun0_A
  dsimp only
  rw [View.canon_unit_zero hz3]
  sl_unfold_words
  simp only [View.readAt_eq_ld, harg2.read_unread, harg3.read_unread, harg4.read_unread, harg5.read_unread, harg6.read_unread, harg7.read_unread, harg8.read_unread, View.ld_unit_zero (S := S1x96x64) hz3, View.ld_unit_zero (S := S1x3x256) hz3, View.ld_unit_zero (S := S1x1x256) hz3, View.ld_unit_zero (S := S1x256x4096) hz3, View.ld_unit_zero (S := S1x4x4096) hz3]
  rfl

/-- The value code block a grid step leaves. -/
theorem out_9 :
    out0_A_9 c i arg2 harg2 arg3 harg3 arg4 harg4 arg5 harg5 arg6 harg6 arg7 harg7 arg8 harg8 arg9 harg9 arg10 harg10 arg11 harg11 arg12 harg12 x0 x1 x2 x3 x4 x5 x6 xt0 =
      vcodeOut x2 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 xt0)]
  unfold kernelRun0_A
  dsimp only
  rw [View.canon_unit_zero hz3]
  sl_unfold_words
  simp only [View.readAt_eq_ld, harg2.read_unread, harg3.read_unread, harg4.read_unread, harg5.read_unread, harg6.read_unread, harg7.read_unread, harg8.read_unread, View.ld_unit_zero (S := S1x96x64) hz3, View.ld_unit_zero (S := S1x3x256) hz3, View.ld_unit_zero (S := S1x1x256) hz3, View.ld_unit_zero (S := S1x256x4096) hz3, View.ld_unit_zero (S := S1x4x4096) hz3]
  rfl

/-- The value scale block a grid step leaves. -/
theorem out_10 :
    out0_A_10 c i arg2 harg2 arg3 harg3 arg4 harg4 arg5 harg5 arg6 harg6 arg7 harg7 arg8 harg8 arg9 harg9 arg10 harg10 arg11 harg11 arg12 harg12 x0 x1 x2 x3 x4 x5 x6 xt0 =
      vscaleOut x2 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6 xt0)]
  unfold kernelRun0_A
  dsimp only
  rw [View.canon_unit_zero hz3]
  sl_unfold_words
  simp only [View.readAt_eq_ld, harg2.read_unread, harg3.read_unread, harg4.read_unread, harg5.read_unread, harg6.read_unread, harg7.read_unread, harg8.read_unread, View.ld_unit_zero (S := S1x96x64) hz3, View.ld_unit_zero (S := S1x3x256) hz3, View.ld_unit_zero (S := S1x1x256) hz3, View.ld_unit_zero (S := S1x256x4096) hz3, View.ld_unit_zero (S := S1x4x4096) hz3]
  rfl

end Outputs

end Cert.KernelIdeal.Block

end
-- ==== Proof.Exponent.lean ====
module

public import Idealize.ShloMosaic.PureOps.Ideal.Laws

/-! Two readings of a number's exponent, at the extended reals: the search for the exponent field by halving steps
against powers of two written as bits, and the largest exponent whose power of two does not exceed the number. They
agree on the range the two programs use. -/

@[expose] public section

noncomputable section

namespace Cert.Scale

open Idealize.ShloMosaic

/-- The number whose exponent field is `w` and whose other bits are nought. -/
def power (w : BitVec 32) : EReal := Ideal.ofBits .f32 (IntOp.shli ArithUnit.vector w 23#32)

/-- The three bit groups of such a number. -/
theorem power_bits : ∀ t : Fin 256,
    (IntOp.shli ArithUnit.vector (BitVec.ofNat 32 t) 23#32).extractLsb' 31 1 = 0#1 ∧
    ((IntOp.shli ArithUnit.vector (BitVec.ofNat 32 t) 23#32).extractLsb' 23 8).toNat = t.val ∧
    ((IntOp.shli ArithUnit.vector (BitVec.ofNat 32 t) 23#32).extractLsb' 0 23).toNat = 0 := by
  decide +kernel

/-- A normal pattern's number, from its three bit groups. -/
theorem f32_normal {b : BitVec 32} {s : BitVec 1} {ex fr : ℕ} (hs : b.extractLsb' 31 1 = s)
    (he : (b.extractLsb' 23 8).toNat = ex) (hf : (b.extractLsb' 0 23).toNat = fr) (h0 : ex ≠ 0) (h1 : ex ≠ 255) :
    Ideal.ofBits .f32 b = (((if (s == 1#1) = true then -1 else 1 : ℝ) * (2 ^ 23 + fr : ℕ) * (2 : ℝ) ^ ((ex : ℤ) - 127 - 23) : ℝ) : EReal) := by
  show Ideal.ieee 8 23 b = _
  unfold Ideal.ieee
  subst hs he hf
  dsimp only
  rw [if_neg (show ¬ (b.extractLsb' 23 8).toNat = 2 ^ 8 - 1 from h1), if_neg h0]
  rfl

/-- An infinite pattern. -/
theorem f32_inf {b : BitVec 32} {s : BitVec 1} (hs : b.extractLsb' 31 1 = s)
    (he : (b.extractLsb' 23 8).toNat = 255) (hf : (b.extractLsb' 0 23).toNat = 0) :
    Ideal.ofBits .f32 b = if (s == 1#1) = true then ⊥ else ⊤ := by
  show Ideal.ieee 8 23 b = _
  unfold Ideal.ieee
  subst hs
  dsimp only
  rw [if_pos (show (b.extractLsb' 23 8).toNat = 2 ^ 8 - 1 from he), if_pos hf]

/-- The same at a natural number. -/
theorem power_bits' (t : ℕ) (h : t < 256) :
    (IntOp.shli ArithUnit.vector (BitVec.ofNat 32 t) 23#32).extractLsb' 31 1 = 0#1 ∧
    ((IntOp.shli ArithUnit.vector (BitVec.ofNat 32 t) 23#32).extractLsb' 23 8).toNat = t ∧
    ((IntOp.shli ArithUnit.vector (BitVec.ofNat 32 t) 23#32).extractLsb' 0 23).toNat = 0 :=
  power_bits ⟨t, h⟩

/-- A normal field's number is two to the field less 127. -/
theorem power_eq {t : ℕ} (h1 : 1 ≤ t) (h2 : t ≤ 254) :
    power (BitVec.ofNat 32 t) = (((2 : ℝ) ^ ((t : ℤ) - 127) : ℝ) : EReal) := by
  obtain ⟨hs, he, hf⟩ := power_bits' t (by omega)
  unfold power
  rw [f32_normal hs he hf (by omega) (by omega)]
  have : (2 : ℝ) ^ ((t : ℤ) - 127) = 2 ^ (23 : ℤ) * 2 ^ ((t : ℤ) - 127 - 23) := by
    rw [← zpow_add₀ (two_ne_zero)]
    exact congrArg (fun k : ℤ => (2 : ℝ) ^ k) (by ring)
  have h23 : ((2 ^ 23 + 0 : ℕ) : ℝ) = 2 ^ (23 : ℤ) := by norm_num
  have hd : ¬ ((0#1 : BitVec 1) == 1#1) = true := by decide
  rw [this, if_neg hd, h23, one_mul]

/-- The last field's number is infinite. -/
theorem power_top : power 255#32 = ⊤ := by
  obtain ⟨hs, he, hf⟩ := power_bits' 255 (by omega)
  exact (f32_inf hs he hf).trans (if_neg (by decide))

/-- A larger field is a larger number. -/
theorem power_mono {s t : ℕ} (h1 : 1 ≤ s) (hst : s ≤ t) (ht : t ≤ 255) :
    power (BitVec.ofNat 32 s) ≤ power (BitVec.ofNat 32 t) := by
  rcases Nat.lt_or_ge t 255 with h | h
  · rw [power_eq h1 (by omega), power_eq (by omega) (by omega)]
    exact EReal.coe_le_coe_iff.mpr (zpow_le_zpow_right₀ (by norm_num) (by omega))
  · obtain rfl : t = 255 := by omega
    rw [show BitVec.ofNat 32 255 = 255#32 from rfl, power_top]; exact le_top

/-- One step of the search. -/
def step (a : EReal) (f s : BitVec 32) : BitVec 32 :=
  if power (IntOp.addi f s) ≤ max a (-a) then IntOp.addi f s else f

/-- The search. -/
def field (a : EReal) : BitVec 32 :=
  step a (step a (step a (step a (step a (step a (step a (step a 0#32 128#32) 64#32) 32#32) 16#32) 8#32) 4#32) 2#32) 1#32

/-- The field a search ends at: the largest one whose number is at most `|a|`. -/
def top (a : EReal) : ℕ := Nat.findGreatest (fun t => 1 ≤ t ∧ power (BitVec.ofNat 32 t) ≤ max a (-a)) 255

/-- The field is at most 255. -/
theorem top_le (a : EReal) : top a ≤ 255 := Nat.findGreatest_le _

/-- Which fields' numbers are at most `|a|`. -/
theorem power_le_iff (a : EReal) {t : ℕ} (h1 : 1 ≤ t) (h2 : t ≤ 255) :
    power (BitVec.ofNat 32 t) ≤ max a (-a) ↔ t ≤ top a := by
  constructor
  · intro h; exact Nat.le_findGreatest h2 ⟨h1, h⟩
  · intro h
    have hpos : top a ≠ 0 := by omega
    have hs := Nat.findGreatest_of_ne_zero (P := fun t => 1 ≤ t ∧ power (BitVec.ofNat 32 t) ≤ max a (-a)) (n := 255) rfl hpos
    exact (power_mono h1 h (top_le a)).trans hs.2

/-- A step keeps the largest field in the searched range and halves the range. -/
theorem step_spec (a : EReal) {n s : ℕ} (hs : 1 ≤ s) (hn : n ≤ top a) (hlt : top a < n + 2 * s) (h256 : n + 2 * s ≤ 256) :
    ∃ n', step a (BitVec.ofNat 32 n) (BitVec.ofNat 32 s) = BitVec.ofNat 32 n' ∧ n' ≤ top a ∧ top a < n' + s ∧ n' + s ≤ 256 := by
  have hadd : IntOp.addi (BitVec.ofNat 32 n) (BitVec.ofNat 32 s) = BitVec.ofNat 32 (n + s) :=
    (BitVec.ofNat_add n s).symm
  unfold step
  rw [hadd]
  by_cases h : n + s ≤ top a
  · exact ⟨n + s, by rw [if_pos ((power_le_iff a (by omega) (by omega)).mpr h)], h, by omega, by omega⟩
  · exact ⟨n, by rw [if_neg (fun h' => h ((power_le_iff a (by omega) (by omega)).mp h'))], hn, by omega, by omega⟩

/-- The search ends at the largest field. -/
theorem field_eq (a : EReal) : field a = BitVec.ofNat 32 (top a) := by
  have h0 : top a < 0 + 2 * 128 := by have := top_le a; omega
  obtain ⟨n1, e1, a1, b1, c1⟩ := step_spec a (n := 0) (s := 128) (by omega) (by omega) h0 (by omega)
  obtain ⟨n2, e2, a2, b2, c2⟩ := step_spec a (n := n1) (s := 64) (by omega) a1 (by omega) (by omega)
  obtain ⟨n3, e3, a3, b3, c3⟩ := step_spec a (n := n2) (s := 32) (by omega) a2 (by omega) (by omega)
  obtain ⟨n4, e4, a4, b4, c4⟩ := step_spec a (n := n3) (s := 16) (by omega) a3 (by omega) (by omega)
  obtain ⟨n5, e5, a5, b5, c5⟩ := step_spec a (n := n4) (s := 8) (by omega) a4 (by omega) (by omega)
  obtain ⟨n6, e6, a6, b6, c6⟩ := step_spec a (n := n5) (s := 4) (by omega) a5 (by omega) (by omega)
  obtain ⟨n7, e7, a7, b7, c7⟩ := step_spec a (n := n6) (s := 2) (by omega) a6 (by omega) (by omega)
  obtain ⟨n8, e8, a8, b8, c8⟩ := step_spec a (n := n7) (s := 1) (by omega) a7 (by omega) (by omega)
  unfold field
  rw [e1, e2, e3, e4, e5, e6, e7, e8]
  congr 1; omega

/-- The exponent the search gives. -/
def exponent (a : EReal) : BitVec 32 :=
  if a = 0 then 0#32 else IntOp.subi (if a < 0 then IntOp.subi (field a) 256#32 else field a) 126#32

/-- Two to an integer power, by its bits. -/
def pow2 (e : BitVec 32) : EReal := power (IntOp.addi e 127#32)

/-- The exponent as an integer: nought at nought, the largest field less 126 elsewhere. -/
def expo (a : EReal) : ℤ := if a = 0 then 0 else (top a : ℤ) - 126

/-- The search's exponent is that integer at a number not below nought. -/
theorem exponent_eq {a : EReal} (h : 0 ≤ a) : exponent a = BitVec.ofInt 32 (expo a) := by
  unfold exponent expo
  by_cases h0 : a = 0
  · rw [if_pos h0, if_pos h0]; rfl
  · rw [if_neg h0, if_neg h0, if_neg (not_lt.mpr h), field_eq]
    have e : BitVec.ofInt 32 ((top a : ℤ) - 126) = BitVec.ofInt 32 (top a : ℤ) + BitVec.ofInt 32 (-126) := by
      rw [← BitVec.ofInt_add]; rfl
    rw [e, BitVec.ofInt_natCast]
    show BitVec.ofNat 32 (top a) - 126#32 = _
    rw [BitVec.sub_eq_add_neg]; rfl

/-- Two to a power in the normal range. -/
theorem pow2_eq {k : ℤ} (h1 : -126 ≤ k) (h2 : k ≤ 127) : pow2 (BitVec.ofInt 32 k) = (((2 : ℝ) ^ k : ℝ) : EReal) := by
  have e : IntOp.addi (BitVec.ofInt 32 k) 127#32 = BitVec.ofNat 32 (k + 127).toNat := by
    show BitVec.ofInt 32 k + BitVec.ofInt 32 127 = _
    rw [← BitVec.ofInt_add, ← BitVec.ofInt_natCast]
    congr 1; omega
  unfold pow2
  rw [e, power_eq (by omega) (by omega)]
  congr 2; omega

/-- Two to an integer power, at the extended reals' own exponential. -/
theorem exp2_int (k : ℤ) : Ideal.exp2 (((k : ℝ)) : EReal) = (((2 : ℝ) ^ k : ℝ) : EReal) := by
  rw [Ideal.exp2_coe]; exact congrArg _ (Real.rpow_intCast 2 k)

/-- Below `2^127` the largest field is at most 253. -/
theorem top_le_of_lt {a : EReal} (h0 : 0 ≤ a) {k : ℕ} (hk : 1 ≤ k) (hk' : k ≤ 254) (h : a < (((2 : ℝ) ^ ((k : ℤ) - 127) : ℝ) : EReal)) : top a < k := by
  by_contra hc
  have h' := (power_le_iff a hk (by omega)).mpr (by omega)
  rw [power_eq hk hk', max_eq_left (by exact (EReal.neg_le_zero.mpr h0).trans h0)] at h'
  exact absurd h (not_lt.mpr h')

/-- The constant 125. -/
theorem c125 : Ideal.ofBits .f32 1123680256#32 = ((125 : ℝ) : EReal) :=
  (f32_normal (s := 0#1) (ex := 133) (fr := 7995392) (by decide) (by decide) (by decide) (by decide) (by decide)).trans
    (by norm_num)

/-- The constant −126. -/
theorem cneg126 : Ideal.ofBits .f32 3271294976#32 = ((-126 : ℝ) : EReal) :=
  (f32_normal (s := 1#1) (ex := 133) (fr := 8126464) (by decide) (by decide) (by decide) (by decide) (by decide)).trans
    (by norm_num)

/-- The constant −∞. -/
theorem cneginf : Ideal.ofBits .f32 4286578688#32 = ⊥ :=
  (f32_inf (s := 1#1) (by decide) (by decide) (by decide)).trans (if_pos (by decide))

/-- The largest exponent from −125 to 128 whose power of two, halved, is at most `|a|`; −126 if none is. -/
def largest (a : EReal) : EReal :=
  Finset.fold max (Ideal.ofBits .f32 4286578688#32)
    (fun x : Fin 254 =>
      if Ideal.exp2 (((((BitVec.ofNat 32 x.val).toInt : ℝ)) : EReal) - Ideal.ofBits .f32 1123680256#32 - 1) ≤ max a (-a)
      then ((((BitVec.ofNat 32 x.val).toInt : ℝ)) : EReal) - Ideal.ofBits .f32 1123680256#32
      else Ideal.ofBits .f32 3271294976#32) Finset.univ

/-- One candidate of that maximum. -/
theorem candidate (a : EReal) (x : Fin 254) :
    (if Ideal.exp2 (((((BitVec.ofNat 32 x.val).toInt : ℝ)) : EReal) - Ideal.ofBits .f32 1123680256#32 - 1) ≤ max a (-a)
      then ((((BitVec.ofNat 32 x.val).toInt : ℝ)) : EReal) - Ideal.ofBits .f32 1123680256#32
      else Ideal.ofBits .f32 3271294976#32)
    = if x.val + 1 ≤ top a then ((((x.val : ℤ) - 125 : ℤ) : ℝ) : EReal) else ((((-126 : ℤ)) : ℝ) : EReal) := by
  have hx : (BitVec.ofNat 32 x.val).toInt = (x.val : ℤ) := by
    rw [BitVec.toInt_ofNat']; have := x.isLt; exact Int.bmod_eq_of_le (by simp <;> omega) (by simp <;> omega)
  have e1 : ((((BitVec.ofNat 32 x.val).toInt : ℝ)) : EReal) - Ideal.ofBits .f32 1123680256#32
      = ((((x.val : ℤ) - 125 : ℤ) : ℝ) : EReal) := by
    rw [hx, c125, ← EReal.coe_sub]; push_cast; rfl
  have e2 : ((((x.val : ℤ) - 125 : ℤ) : ℝ) : EReal) - 1 = ((((((x.val + 1 : ℕ) : ℤ) - 127 : ℤ)) : ℝ) : EReal) := by
    rw [← EReal.coe_one, ← EReal.coe_sub]; congr 1; push_cast; ring
  rw [e1, e2, exp2_int, ← power_eq (by omega) (by have := x.isLt; omega), cneg126]
  rw [if_congr (power_le_iff a (by omega) (by have := x.isLt; omega)) rfl rfl]
  norm_num

/-- The largest exponent is the largest field less 126, up to field 254. -/
theorem largest_eq (a : EReal) (h : top a ≤ 254) : largest a = ((((top a : ℤ) - 126 : ℤ) : ℝ) : EReal) := by
  unfold largest
  simp only [candidate]
  apply le_antisymm
  · rw [Finset.fold_max_le]
    refine ⟨by rw [cneginf]; exact bot_le, fun x _ => ?_⟩
    split_ifs with hx
    · exact EReal.coe_le_coe_iff.mpr (by exact_mod_cast (by omega : (x.val : ℤ) - 125 ≤ (top a : ℤ) - 126))
    · exact EReal.coe_le_coe_iff.mpr (by exact_mod_cast (by omega : (-126 : ℤ) ≤ (top a : ℤ) - 126))
  · rw [Finset.le_fold_max]
    right
    rcases Nat.eq_zero_or_pos (top a) with h0 | hp
    · refine ⟨⟨0, by omega⟩, Finset.mem_univ _, ?_⟩
      rw [if_neg (by simp only; omega), h0]; norm_num
    · refine ⟨⟨top a - 1, by omega⟩, Finset.mem_univ _, ?_⟩
      rw [if_pos (by simp only; omega)]
      exact EReal.coe_le_coe_iff.mpr (by exact_mod_cast (by omega : (top a : ℤ) - 126 ≤ ((top a - 1 : ℕ) : ℤ) - 125))

end Cert.Scale

end
-- ==== Proof.Spec.lean ====
module

public import proofs.«01_k».proof.Proof.Exponent

/-! The mathematics of the four results for one batch entry, over the extended reals: the codes and scales of the new
keys and values, and the attention over the cache and the new positions. -/

@[expose] public section

noncomputable section

namespace Cert.Spec

open Idealize.ShloMosaic

variable (n : BitVec 32) (q : Fin 3 → Fin 4 → Fin 8 → Fin 64 → EReal) (kn vn : Fin 3 → Fin 4 → Fin 64 → EReal)
  (ks : Fin 4 → Fin 64 → EReal) (ck cv : Fin 4096 → Fin 4 → Fin 64 → EReal) (vs : Fin 4096 → Fin 4 → EReal)

/-- Cut to the range of the codes. -/
def clip (v : EReal) : EReal := min (Ideal.ofBits .f32 1138753536#32) (max (Ideal.ofBits .f32 3286237184#32) v)

/-- The code of a new key: the key times two to one less the exponent of its scale, cut. -/
def kcode (t : Fin 3) (kv : Fin 4) (d : Fin 64) : EReal :=
  clip (kn t kv d * Ideal.exp2 (1 - if ks kv d = 0 then 0 else Scale.largest (ks kv d)))

/-- The largest absolute value of a new value vector. -/
def amax (t : Fin 3) (kv : Fin 4) : EReal :=
  Finset.fold max (Ideal.ofBits .f32 4286578688#32) (fun d : Fin 64 => max (vn t kv d) (-vn t kv d)) Finset.univ

/-- The exponent a new value vector is scaled by. -/
def vexp (t : Fin 3) (kv : Fin 4) : EReal :=
  if amax vn t kv = 0 then 0 else Scale.largest (amax vn t kv * Ideal.ofBits .f32 991054117#32)

/-- The code of a new value. -/
def vcode (t : Fin 3) (kv : Fin 4) (d : Fin 64) : EReal := clip (vn t kv d * Ideal.exp2 (0 - vexp vn t kv))

/-- The scale of a new value vector. -/
def vscale (t : Fin 3) (kv : Fin 4) : EReal := Ideal.exp2 (vexp vn t kv)

/-- The query times the key scale and the score scale. -/
def qs (s : Fin 3) (kv : Fin 4) (g : Fin 8) (d : Fin 64) : EReal :=
  q s kv g d * (ks kv d * Ideal.ofBits .f32 1040187392#32)

/-- The score against a cached key: −∞ from the length on. -/
def sc (s : Fin 3) (kv : Fin 4) (g : Fin 8) (p : Fin 4096) : EReal :=
  Scalar.select (IntOp.cmpi CmpIPredicate.slt (BitVec.ofNat 32 p.val) n) (∑ d, ck p kv d * qs q ks s kv g d)
    (Ideal.ofBits .f32 4286578688#32)

/-- The score against a new key: −∞ at a later position. -/
def sn (s : Fin 3) (kv : Fin 4) (g : Fin 8) (t : Fin 3) : EReal :=
  Scalar.select (IntOp.cmpi CmpIPredicate.sle (BitVec.ofNat 32 t.val) (BitVec.ofNat 32 s.val))
    (∑ d, kcode kn ks t kv d * qs q ks s kv g d) (Ideal.ofBits .f32 4286578688#32)

/-- The largest score. -/
def top (s : Fin 3) (kv : Fin 4) (g : Fin 8) : EReal :=
  max (Finset.fold max (Ideal.ofBits .f32 4286578688#32) (fun p => sc n q ks ck s kv g p) Finset.univ)
    (Finset.fold max (Ideal.ofBits .f32 4286578688#32) (fun t => sn q kn ks s kv g t) Finset.univ)

/-- The weight of a cached position, before division. -/
def ec (s : Fin 3) (kv : Fin 4) (g : Fin 8) (p : Fin 4096) : EReal :=
  Ideal.exp (sc n q ks ck s kv g p - top n q kn ks ck s kv g)

/-- The weight of a new position, before division. -/
def en (s : Fin 3) (kv : Fin 4) (g : Fin 8) (t : Fin 3) : EReal :=
  Ideal.exp (sn q kn ks s kv g t - top n q kn ks ck s kv g)

/-- The sum of the weights. -/
def den (s : Fin 3) (kv : Fin 4) (g : Fin 8) : EReal :=
  ∑ p, ec n q kn ks ck s kv g p + ∑ t, en n q kn ks ck s kv g t

/-- The attention output. -/
def attn (s : Fin 3) (kv : Fin 4) (g : Fin 8) (d : Fin 64) : EReal :=
  ∑ p, cv p kv d * (Ideal.div (ec n q kn ks ck s kv g p) (den n q kn ks ck s kv g) * vs p kv) +
    ∑ t, vcode vn t kv d * (Ideal.div (en n q kn ks ck s kv g t) (den n q kn ks ck s kv g) * vscale vn t kv)

/-- The new position a row belongs to. -/
abbrev rS (r : Fin 96) : Fin 3 := ⟨r.val / 32, by omega⟩
/-- The head a row reads. -/
abbrev rH (r : Fin 96) : Fin 4 := ⟨r.val / 8 % 4, by omega⟩
/-- A row's place within its head's group. -/
abbrev rG (r : Fin 96) : Fin 8 := ⟨r.val % 8, by omega⟩
/-- The head a lane belongs to. -/
abbrev lH (j : Fin 256) : Fin 4 := ⟨j.val / 64, by omega⟩
/-- A lane's place within its head. -/
abbrev lD (j : Fin 256) : Fin 64 := ⟨j.val % 64, by omega⟩
/-- The lane of a head and a place. -/
abbrev lane (kv : Fin 4) (d : Fin 64) : Fin 256 := ⟨kv.val * 64 + d.val, by omega⟩

end Cert.Spec

end
-- ==== Proof.Search.lean ====
module

public import proofs.«01_k».proof.Proof.Block
public import proofs.«01_k».proof.Proof.Spec

/-! The kernel's exponent search and power of two, as one definition each, and the quantiser's composites written
with them. -/

@[expose] public section

set_option maxRecDepth 16384

noncomputable section

namespace Cert.KernelIdeal.Block

open Idealize.ShloMosaic Idealize.ShloMosaic.TcCoe Idealize.ShloMosaic.Tactic Idealize.SL.Sem
open Cert.KernelIdeal Cert.KernelIdeal.Gen

variable {F : FTy → Type} [FloatOps F]

section Search

variable {S : Shape}

/-- One step of the search: the field grows by `s` where the grown field's power of two is at most `|a|`. -/
def vstep (a : FVec F S .f32) (f : IVec S 32) (s : BitVec 32) : IVec S 32 :=
  select (cmpf .oge (absf a) (bitcastToFloat .f32 (shli (addi f (broadcast S s)) (broadcast S 23#32)))) (addi f (broadcast S s)) f

/-- The search: eight steps of halving size. -/
def vfield (a : FVec F S .f32) : IVec S 32 :=
  vstep a (vstep a (vstep a (vstep a (vstep a (vstep a (vstep a (vstep a (broadcast S 0#32) 128#32) 64#32) 32#32) 16#32) 8#32) 4#32) 2#32) 1#32

/-- The exponent: the field less 126 and less another 256 at a negative number, nought at nought. -/
def vexponent (a : FVec F S .f32) : IVec S 32 :=
  select (cmpf .oeq a (broadcast S (Scalar.ofBits .f32 0x00000000#32))) (broadcast S 0#32)
    (subi (select (cmpf .olt a (broadcast S (Scalar.ofBits .f32 0x00000000#32))) (subi (vfield a) (broadcast S 256#32)) (vfield a)) (broadcast S 126#32))

/-- Two to an integer power, by its bits. -/
def vpow2 (e : IVec S 32) : FVec F S .f32 :=
  bitcastToFloat .f32 (shli (addi e (broadcast S 127#32)) (broadcast S 23#32))

/-- Cut to the range of the codes. -/
def vclip (v : FVec F S .f32) : FVec F S .fp8e4m3 :=
  truncf .fp8e4m3 (minimumf (broadcast S (Scalar.ofBits .f32 0x43E00000#32)) (maximumf (broadcast S (Scalar.ofBits .f32 0xC3E00000#32)) v)) bitsLt_fp8e4m3_f32

end Search

variable (x1 x2 : Vec F S1x3x256 .bf16) (x3 : Vec F S1x1x256 .f32)

/-- The key scales' field is the search. -/
theorem kfield_eq : kfield x3 = vfield (k0_pay2 x3) := rfl

/-- The key codes: the keys times the power of two of one less the exponent, cut. -/
theorem kcode_eq : kcode x1 x3 = vclip (mulf (extf .f32 (shapeCast S3x256 x1 shapeCasts_S1x3x256_S3x256) bitsLt_bf16_f32)
    (broadcastTo S3x256 (vpow2 (subi (broadcast S1x256 1#32) (vexponent (k0_pay2 x3)))) broadcasts_S1x256_S3x256)) := rfl

/-- The first head's exponents. -/
theorem vexp0_eq : vexp0 x2 = vexponent (k0_pay13 x2) := rfl

/-- The fourth head's exponents. -/
theorem vexp3_eq : vexp3 x2 = vexponent (k0_pay44 (k0_pay11 x2)) := rfl

/-- The first head's codes. -/
theorem code0_eq : code0 x2 = vclip (mulf (k0_pay12 x2) (broadcastTo S3x64 (vpow2 (subi (broadcast S3x1 0#32) (vexponent (k0_pay13 x2)))) broadcasts_S3x1_S3x64)) := rfl

/-- The second head's codes. -/
theorem code1_eq : code1 x2 = vclip (mulf (k0_pay21 (k0_pay11 x2)) (broadcastTo S3x64 (vpow2 (subi (broadcast S3x1 0#32) (vexponent (k0_pay22 (k0_pay11 x2))))) broadcasts_S3x1_S3x64)) := rfl

/-- The third head's codes. -/
theorem code2_eq : code2 x2 = vclip (mulf (k0_pay32 (k0_pay11 x2)) (broadcastTo S3x64 (vpow2 (subi (broadcast S3x1 0#32) (vexponent (k0_pay33 (k0_pay11 x2))))) broadcasts_S3x1_S3x64)) := rfl

/-- The fourth head's scaled values. -/
theorem scaled3_eq : scaled3 x2 = (mulf (k0_pay43 (k0_pay11 x2)) (broadcastTo S3x64 (vpow2 (subi (broadcast S3x1 0#32) (vexponent (k0_pay44 (k0_pay11 x2))))) broadcasts_S3x1_S3x64)) := rfl

/-- The first head's scales. -/
theorem scale0_eq : scale0 x2 = vpow2 (vexponent (k0_pay13 x2)) := rfl

/-- The second head's scales. -/
theorem scale1_eq : scale1 x2 = vpow2 (vexponent (k0_pay22 (k0_pay11 x2))) := rfl

/-- The third head's scales. -/
theorem scale2_eq : scale2 x2 = vpow2 (vexponent (k0_pay33 (k0_pay11 x2))) := rfl

section At

variable {S : Shape} (a : FVec Ideal S .f32) (f : IVec S 32) (s : BitVec 32) (j : S.Idx)

/-- A step at an index. -/
theorem vstep_apply : vstep a f s j = Scale.step (a j) (f j) s := by
  pointwise [vstep]
  rfl

/-- The search at an index. -/
theorem vfield_apply : vfield a j = Scale.field (a j) := by
  simp only [vfield, vstep_apply]
  rfl

/-- The exponent at an index. -/
theorem vexponent_apply : vexponent a j = Scale.exponent (a j) := by
  pointwise [vexponent]
  rw [vfield_apply]
  rfl

/-- The power of two at an index. -/
theorem vpow2_apply : vpow2 (F := Ideal) f j = Scale.pow2 (f j) := by
  pointwise [vpow2]
  rfl

/-- The cut at an index. -/
theorem vclip_apply : vclip a j = Spec.clip (a j) := by
  pointwise [vclip]
  rfl

end At

end Cert.KernelIdeal.Block

end
-- ==== Proof.Range.lean ====
module

public import proofs.«01_k».proof.Proof.Spec

/-! On the admitted range the kernel's powers of two, built from the searched exponents, are the powers the
mathematics states. -/

@[expose] public section

noncomputable section

namespace Cert.Scale

open Idealize.ShloMosaic

/-- The exponent is at least −126. -/
theorem expo_ge (a : EReal) : -126 ≤ expo a := by
  unfold expo
  split <;> omega

/-- Below two to `k` the exponent is at most `k`. -/
theorem expo_le {a : EReal} (h0 : 0 ≤ a) {k : ℕ} (hk' : k ≤ 127)
    (h : a < (((2 : ℝ) ^ (k : ℤ) : ℝ) : EReal)) : expo a ≤ k := by
  have := top_le_of_lt h0 (k := k + 127) (by omega) (by omega) (by
    have e : ((k + 127 : ℕ) : ℤ) - 127 = (k : ℤ) := by push_cast; ring
    rw [e]; exact h)
  unfold expo
  split <;> omega

/-- The exponent as the mathematics states it. -/
theorem expo_coe {a : EReal} (h : top a ≤ 254) : (if a = 0 then 0 else largest a) = (((expo a : ℤ) : ℝ) : EReal) := by
  unfold expo
  by_cases h0 : a = 0
  · rw [if_pos h0, if_pos h0]; simp
  · rw [if_neg h0, if_neg h0, largest_eq a h]

/-- An exponent taken from an integer, at the bits of two to that power. -/
theorem pow2_sub {a : EReal} (h0 : 0 ≤ a) {k : ℕ} (hk' : k ≤ 127)
    (h : a < (((2 : ℝ) ^ (k : ℤ) : ℝ) : EReal)) (n : ℕ) (hn : (n : ℤ) ≤ 1) (hkn : (k : ℤ) - n ≤ 126) :
    pow2 (IntOp.subi (BitVec.ofNat 32 n) (exponent a)) = Ideal.exp2 (((n : ℝ) : EReal) - if a = 0 then 0 else largest a) := by
  have h1 := expo_ge a
  have h2 := expo_le h0 hk' h
  have ht : top a ≤ 254 := by
    have := top_le_of_lt h0 (k := k + 127) (by omega) (by omega) (by
      have e : ((k + 127 : ℕ) : ℤ) - 127 = (k : ℤ) := by push_cast; ring
      rw [e]; exact h)
    omega
  have e : IntOp.subi (BitVec.ofNat 32 n) (exponent a) = BitVec.ofInt 32 (n - expo a) := by
    rw [exponent_eq h0, sub_eq_add_neg, BitVec.ofInt_add, BitVec.ofInt_neg, BitVec.ofInt_natCast]
    exact BitVec.sub_eq_add_neg _ _
  rw [e, pow2_eq (by omega) (by omega), expo_coe ht, ← EReal.coe_sub, ← exp2_int]
  congr 2
  push_cast
  ring

/-- The power of two of the exponent itself. -/
theorem pow2_self {a : EReal} (h0 : 0 ≤ a) {k : ℕ} (hk' : k ≤ 127)
    (h : a < (((2 : ℝ) ^ (k : ℤ) : ℝ) : EReal)) :
    pow2 (exponent a) = Ideal.exp2 (if a = 0 then 0 else largest a) := by
  have h1 := expo_ge a
  have h2 := expo_le h0 hk' h
  have ht : top a ≤ 254 := by
    have := top_le_of_lt h0 (k := k + 127) (by omega) (by omega) (by
      have e : ((k + 127 : ℕ) : ℤ) - 127 = (k : ℤ) := by push_cast; ring
      rw [e]; exact h)
    omega
  rw [exponent_eq h0, pow2_eq (by omega) (by omega), expo_coe ht, ← exp2_int]

/-- The reciprocal of 448, rounded to single precision. -/
theorem cinv448 : Ideal.ofBits .f32 991054117#32 = (((9586981 : ℝ) * (2 : ℝ) ^ (-32 : ℤ) : ℝ) : EReal) :=
  (f32_normal (s := 0#1) (ex := 118) (fr := 1198373) (by decide) (by decide) (by decide) (by decide) (by decide)).trans
    (by norm_num)

/-- The largest finite half-width number. -/
theorem cbig : Ideal.ofBits .f32 0x7F7F0000#32 = (((255 : ℝ) * (2 : ℝ) ^ (120 : ℤ) : ℝ) : EReal) :=
  (f32_normal (s := 0#1) (ex := 254) (fr := 8323072) (by decide) (by decide) (by decide) (by decide) (by decide)).trans
    (by norm_num)

/-- Two to the 127th. -/
theorem c127 : Ideal.ofBits .f32 0x7F000000#32 = (((2 : ℝ) ^ ((127 : ℕ) : ℤ) : ℝ) : EReal) :=
  (f32_normal (s := 0#1) (ex := 254) (fr := 0) (by decide) (by decide) (by decide) (by decide) (by decide)).trans
    (by norm_num)

end Cert.Scale

namespace Cert.Spec

open Idealize.ShloMosaic

variable (vn : Fin 3 → Fin 4 → Fin 64 → EReal) (ks : Fin 4 → Fin 64 → EReal)

/-- The key scales admitted: from nought to below two to the 127th. -/
def KsOk : Prop := ∀ kv d, 0 ≤ ks kv d ∧ ks kv d < Ideal.ofBits .f32 0x7F000000#32

/-- The new values admitted: at most the largest finite half-width number in absolute value. -/
def VnOk : Prop := ∀ t kv d, max (vn t kv d) (-vn t kv d) ≤ Ideal.ofBits .f32 0x7F7F0000#32

/-- The largest absolute value is not below nought. -/
theorem amax_nonneg (t : Fin 3) (kv : Fin 4) : 0 ≤ amax vn t kv := by
  have h : max (vn t kv 0) (-vn t kv 0) ≤ amax vn t kv :=
    ((Finset.fold_max_le (s := (Finset.univ : Finset (Fin 64)))
      (f := fun d : Fin 64 => max (vn t kv d) (-vn t kv d)) (b := Ideal.ofBits .f32 4286578688#32) (amax vn t kv)).mp le_rfl).2 0 (Finset.mem_univ _)
  refine le_trans ?_ h
  rcases le_total 0 (vn t kv 0) with h | h
  · exact le_max_of_le_left h
  · exact le_max_of_le_right (EReal.neg_nonneg.mpr h)

/-- The largest absolute value is at most the largest finite half-width number. -/
theorem amax_le (h : VnOk vn) (t : Fin 3) (kv : Fin 4) : amax vn t kv ≤ Ideal.ofBits .f32 0x7F7F0000#32 := by
  unfold amax
  rw [Finset.fold_max_le]
  exact ⟨by rw [Scale.cneginf]; exact bot_le, fun d _ => h t kv d⟩

/-- The scaled largest absolute value lies from nought to below two to the 120th, and is nought only with it. -/
theorem amax_scaled (h : VnOk vn) (t : Fin 3) (kv : Fin 4) :
    0 ≤ amax vn t kv * Ideal.ofBits .f32 991054117#32 ∧
    amax vn t kv * Ideal.ofBits .f32 991054117#32 < (((2 : ℝ) ^ ((120 : ℕ) : ℤ) : ℝ) : EReal) ∧
    (amax vn t kv * Ideal.ofBits .f32 991054117#32 = 0 ↔ amax vn t kv = 0) := by
  have h0 := amax_nonneg vn t kv
  have h1 := amax_le vn h t kv
  rw [Scale.cbig] at h1
  rw [Scale.cinv448]
  generalize amax vn t kv = x at h0 h1 ⊢
  induction x using EReal.rec with
  | bot => exact absurd h0 (by simp)
  | top => exact absurd (top_le_iff.mp h1) (EReal.coe_ne_top _)
  | coe r =>
    have h0' : 0 ≤ r := by exact_mod_cast h0
    have h1' : r ≤ 255 * (2 : ℝ) ^ (120 : ℤ) := by exact_mod_cast h1
    have hc : (0 : ℝ) < (9586981 : ℝ) * (2 : ℝ) ^ (-32 : ℤ) := by positivity
    rw [← EReal.coe_mul]
    refine ⟨by exact_mod_cast mul_nonneg h0' hc.le, ?_, ?_⟩
    · refine EReal.coe_lt_coe_iff.mpr (lt_of_le_of_lt (mul_le_mul_of_nonneg_right h1' hc.le) ?_)
      norm_num
    · rw [EReal.coe_eq_zero, EReal.coe_eq_zero, mul_eq_zero]
      exact ⟨fun h => h.resolve_right hc.ne', Or.inl⟩

/-- The exponent of the new values, with the test of nought on the scaled number. -/
theorem vexp_eq (h : VnOk vn) (t : Fin 3) (kv : Fin 4) :
    vexp vn t kv = if amax vn t kv * Ideal.ofBits .f32 991054117#32 = 0 then 0
      else Scale.largest (amax vn t kv * Ideal.ofBits .f32 991054117#32) := by
  unfold vexp
  by_cases h0 : amax vn t kv = 0
  · rw [if_pos h0, if_pos ((amax_scaled vn h t kv).2.2.mpr h0)]
  · rw [if_neg h0, if_neg fun e => h0 ((amax_scaled vn h t kv).2.2.mp e)]

/-- The kernel's factor of a new key is the stated one. -/
theorem key_factor (h : KsOk ks) (kv : Fin 4) (d : Fin 64) :
    Scale.pow2 (IntOp.subi 1#32 (Scale.exponent (ks kv d)))
      = Ideal.exp2 (1 - if ks kv d = 0 then 0 else Scale.largest (ks kv d)) := by
  have h2 := (h kv d).2
  rw [Scale.c127] at h2
  have := Scale.pow2_sub (h kv d).1 (k := 127) (by omega) h2 1 (by omega) (by omega)
  simpa using this

/-- The kernel's factor of a new value is the stated one. -/
theorem value_factor (h : VnOk vn) (t : Fin 3) (kv : Fin 4) :
    Scale.pow2 (IntOp.subi 0#32 (Scale.exponent (amax vn t kv * Ideal.ofBits .f32 991054117#32)))
      = Ideal.exp2 (0 - vexp vn t kv) := by
  obtain ⟨h0, h1, _⟩ := amax_scaled vn h t kv
  rw [vexp_eq vn h]
  have := Scale.pow2_sub h0 (k := 120) (by omega) h1 0 (by omega) (by omega)
  simpa using this

/-- The kernel's scale of a new value is the stated one. -/
theorem value_scale (h : VnOk vn) (t : Fin 3) (kv : Fin 4) :
    Scale.pow2 (Scale.exponent (amax vn t kv * Ideal.ofBits .f32 991054117#32)) = vscale vn t kv := by
  obtain ⟨h0, h1, _⟩ := amax_scaled vn h t kv
  unfold vscale
  rw [vexp_eq vn h]
  exact Scale.pow2_self h0 (k := 120) (by omega) h1

end Cert.Spec

end
-- ==== Proof.Lanes.lean ====
module

public import proofs.«01_k».proof.Proof.Spec

/-! Rows, lanes and heads: which lanes belong to the head of a row, and a sum over all lanes of numbers that are nought
away from one head. -/

@[expose] public section

noncomputable section

namespace Cert.Spec

open Idealize.ShloMosaic

/-- A lane is the lane of its head and place. -/
theorem lane_eta (j : Fin 256) : lane (lH j) (lD j) = j := Fin.ext (by show j.val / 64 * 64 + j.val % 64 = j.val; omega)

/-- The head of the lane of a head and a place. -/
theorem lH_lane (kv : Fin 4) (d : Fin 64) : lH (lane kv d) = kv := Fin.ext (by show (kv.val * 64 + d.val) / 64 = kv.val; omega)

/-- The place of the lane of a head and a place. -/
theorem lD_lane (kv : Fin 4) (d : Fin 64) : lD (lane kv d) = d := Fin.ext (by show (kv.val * 64 + d.val) % 64 = d.val; omega)

/-- Lanes as heads and places. -/
def laneEquiv : Fin 4 × Fin 64 ≃ Fin 256 where
  toFun x := lane x.1 x.2
  invFun j := (lH j, lD j)
  left_inv x := Prod.ext (lH_lane _ _) (lD_lane _ _)
  right_inv j := lane_eta j

/-- A sum over the lanes of numbers that are nought away from one head is the sum over that head's places. -/
theorem sum_lanes (f : Fin 256 → EReal) (kv : Fin 4) (h : ∀ j, lH j ≠ kv → f j = 0) :
    ∑ j, f j = ∑ d, f (lane kv d) := by
  rw [← Fintype.sum_equiv laneEquiv (fun x => f (lane x.1 x.2)) f (fun _ => rfl), Fintype.sum_prod_type]
  refine Finset.sum_eq_single kv (fun b _ hb => Finset.sum_eq_zero fun d _ => h _ ?_) (fun h => absurd (Finset.mem_univ _) h)
  rw [lH_lane]; exact hb

/-- Equality of two small words. -/
theorem cmpi_eq_ofNat {a b : ℕ} (ha : a < 256) (hb : b < 256) :
    IntOp.cmpi CmpIPredicate.eq (BitVec.ofNat 32 a) (BitVec.ofNat 32 b) = if a = b then 1#1 else 0#1 := by
  by_cases h : a = b
  · subst h; simp [IntOp.cmpi]
  · rw [if_neg h]
    have : ¬ (BitVec.ofNat 32 a = BitVec.ofNat 32 b) := by
      intro e
      have := congrArg BitVec.toNat e
      simp only [BitVec.toNat_ofNat] at this
      omega
    show BitVec.ofBool (BitVec.ofNat 32 a == BitVec.ofNat 32 b) = 0#1
    rw [beq_eq_false_iff_ne.mpr this]
    rfl

end Cert.Spec

end
-- ==== Proof.Codes.lean ====
module

public import proofs.«01_k».proof.Proof.Search
public import proofs.«01_k».proof.Proof.Range
public import proofs.«01_k».proof.Proof.Lanes

/-! The codes and scales one grid step of the kernel computes, entry by entry: on the admitted range they are the stated
mathematics of the step's batch entry. -/

@[expose] public section

set_option maxRecDepth 16384

noncomputable section

namespace Cert.KernelIdeal.Block

open Idealize.ShloMosaic Idealize.ShloMosaic.TcCoe Idealize.ShloMosaic.Tactic Idealize.SL.Sem
open Cert.KernelIdeal Cert.KernelIdeal.Gen

variable (n : BitVec 32) (x0 : Vec Ideal S1x96x64 .bf16) (x1 x2 : Vec Ideal S1x3x256 .bf16) (x3 : Vec Ideal S1x1x256 .f32)
  (x4 x5 : Vec Ideal S1x256x4096 .fp8e4m3) (x6 : Vec Ideal S1x4x4096 .f32)

/-- The queries a block holds. -/
def qB (s : Fin 3) (kv : Fin 4) (g : Fin 8) (d : Fin 64) : EReal := x0 (ix3 0 ⟨s.val * 32 + kv.val * 8 + g.val, by omega⟩ d)
/-- The new keys, or the new values, a block holds. -/
def newB (t : Fin 3) (kv : Fin 4) (d : Fin 64) : EReal := x1 (ix3 0 t (Spec.lane kv d))
/-- The key scales a block holds. -/
def ksB (kv : Fin 4) (d : Fin 64) : EReal := x3 (ix3 0 0 (Spec.lane kv d))
/-- The cached keys, or the cached values, a block holds. -/
def cacheB (p : Fin 4096) (kv : Fin 4) (d : Fin 64) : EReal := x4 (ix3 0 (Spec.lane kv d) p)
/-- The cached value scales a block holds. -/
def vsB (p : Fin 4096) (kv : Fin 4) : EReal := x6 (ix3 0 kv p)

/-- The factor of the new keys, per lane. -/
theorem kfactor_at (h : Spec.KsOk (ksB x3)) (j : Fin 256) :
    vpow2 (F := Ideal) (subi (broadcast S1x256 1#32) (vexponent (k0_pay2 x3))) (ix2 0 j)
      = Ideal.exp2 (1 - if ksB x3 (Spec.lH j) (Spec.lD j) = 0 then 0 else Scale.largest (ksB x3 (Spec.lH j) (Spec.lD j))) := by
  rw [vpow2_apply]
  generalize hE : vexponent (k0_pay2 x3) = E
  pointwise []
  subst hE
  rw [vexponent_apply]
  pointwise [k0_pay2]
  have hj : x3 (ix3 0 0 j) = ksB x3 (Spec.lH j) (Spec.lD j) := congrArg (fun l => x3 (ix3 0 0 l)) (Spec.lane_eta j).symm
  rw [hj]
  exact Spec.key_factor _ h _ _

/-- The codes of the new keys. -/
theorem kcode_at (h : Spec.KsOk (ksB x3)) (t : Fin 3) (j : Fin 256) :
    kcode x1 x3 (ix2 t j) = Spec.kcode (newB x1) (ksB x3) t (Spec.lH j) (Spec.lD j) := by
  have hf := kfactor_at x3 h j
  rw [kcode_eq, vclip_apply]
  generalize vpow2 (F := Ideal) (subi (broadcast S1x256 1#32) (vexponent (k0_pay2 x3))) = E at hf ⊢
  pointwise []
  rw [hf]
  have hj : x1 (ix3 0 t j) = newB x1 t (Spec.lH j) (Spec.lD j) := congrArg (fun l => x1 (ix3 0 t l)) (Spec.lane_eta j).symm
  rw [hj]
  rfl

/-- The codes of the new keys as they are written. -/
theorem kcodeOut_at (h : Spec.KsOk (ksB x3)) (t : Fin 3) (j : Fin 256) :
    kcodeOut x1 x3 (ix3 0 t j) = Spec.kcode (newB x1) (ksB x3) t (Spec.lH j) (Spec.lD j) := by
  have hk : kcodeOut x1 x3 = shapeCast S1x3x256 (kcode x1 x3) shapeCasts_S3x256_S1x3x256 := rfl
  have hc := kcode_at x1 x3 h t j
  rw [hk]
  generalize kcode x1 x3 = C at hc ⊢
  pointwise []
  exact hc

section Heads

variable (t : Fin 3)

/-- A maximum of absolute values over a head's lanes is the head's largest absolute value. -/
theorem amax_of (kv : Fin 4) (f : Fin 64 → EReal) (hf : ∀ d, f d = max (newB x2 t kv d) (-newB x2 t kv d)) :
    Finset.fold max (Ideal.ofBits FTy.f32 4286578688#32) f Finset.univ * Ideal.ofBits FTy.f32 991054117#32
      = Spec.amax (newB x2) t kv * Ideal.ofBits FTy.f32 991054117#32 :=
  congrArg (fun g => Finset.fold max (Ideal.ofBits FTy.f32 4286578688#32) g Finset.univ * Ideal.ofBits FTy.f32 991054117#32) (funext hf)

/-- One entry's absolute value, its lane named by a number. -/
theorem abs_lane (kv : Fin 4) (d : Fin 64) (l : Fin 256) (h : l.val = kv.val * 64 + d.val) :
    FloatOps.absf (F := Ideal) (φ := .f32) (x2 (ix3 0 t l)) = max (newB x2 t kv d) (-newB x2 t kv d) := by
  obtain rfl : l = Spec.lane kv d := Fin.ext h
  rfl

/-- The first head's scaled largest absolute values. -/
theorem amax0_at : k0_pay13 x2 (ix2 t 0) = Spec.amax (newB x2) t 0 * Ideal.ofBits FTy.f32 991054117#32 := by
  pointwise [k0_pay13, k0_pay12, k0_pay11]
  exact amax_of x2 t 0 _ fun d => abs_lane x2 t 0 d _ (by show d.val = 0 * 64 + d.val; omega)

/-- The first head's new values. -/
theorem head0_at (d : Fin 64) : k0_pay12 x2 (ix2 t d) = newB x2 t 0 d := by
  pointwise [k0_pay12, k0_pay11]
  exact congrArg (fun l => x2 (ix3 0 t l)) (Fin.ext (by show d.val = 0 * 64 + d.val; omega))

/-- The second head's scaled largest absolute values. -/
theorem amax1_at : k0_pay22 (k0_pay11 x2) (ix2 t 0) = Spec.amax (newB x2) t 1 * Ideal.ofBits FTy.f32 991054117#32 := by
  pointwise [k0_pay22, k0_pay21, k0_pay11]
  exact amax_of x2 t 1 _ fun d => abs_lane x2 t 1 d _ (by show 64 + d.val = 1 * 64 + d.val; omega)

/-- The second head's new values. -/
theorem head1_at (d : Fin 64) : k0_pay21 (k0_pay11 x2) (ix2 t d) = newB x2 t 1 d := by
  pointwise [k0_pay21, k0_pay11]
  exact congrArg (fun l => x2 (ix3 0 t l)) (Fin.ext (by show 64 + d.val = 1 * 64 + d.val; omega))

/-- The third head's scaled largest absolute values. -/
theorem amax2_at : k0_pay33 (k0_pay11 x2) (ix2 t 0) = Spec.amax (newB x2) t 2 * Ideal.ofBits FTy.f32 991054117#32 := by
  pointwise [k0_pay33, k0_pay32, k0_pay11]
  exact amax_of x2 t 2 _ fun d => abs_lane x2 t 2 d _ (by show 128 + d.val = 2 * 64 + d.val; omega)

/-- The third head's new values. -/
theorem head2_at (d : Fin 64) : k0_pay32 (k0_pay11 x2) (ix2 t d) = newB x2 t 2 d := by
  pointwise [k0_pay32, k0_pay11]
  exact congrArg (fun l => x2 (ix3 0 t l)) (Fin.ext (by show 128 + d.val = 2 * 64 + d.val; omega))

/-- The fourth head's scaled largest absolute values. -/
theorem amax3_at : k0_pay44 (k0_pay11 x2) (ix2 t 0) = Spec.amax (newB x2) t 3 * Ideal.ofBits FTy.f32 991054117#32 := by
  pointwise [k0_pay44, k0_pay43, k0_pay11]
  exact amax_of x2 t 3 _ fun d => abs_lane x2 t 3 d _ (by show 192 + d.val = 3 * 64 + d.val; omega)

/-- The fourth head's new values. -/
theorem head3_at (d : Fin 64) : k0_pay43 (k0_pay11 x2) (ix2 t d) = newB x2 t 3 d := by
  pointwise [k0_pay43, k0_pay11]
  exact congrArg (fun l => x2 (ix3 0 t l)) (Fin.ext (by show 192 + d.val = 3 * 64 + d.val; omega))

/-- The codes of a head's new values, from its scaled largest absolute values. -/
theorem code_of (h : Spec.VnOk (newB x2)) (kv : Fin 4) (W : FVec Ideal S3x64 .f32) (A : FVec Ideal S3x1 .f32)
    (hA : A (ix2 t 0) = Spec.amax (newB x2) t kv * Ideal.ofBits FTy.f32 991054117#32) (d : Fin 64)
    (hW : W (ix2 t d) = newB x2 t kv d) :
    Spec.clip (mulf W (broadcastTo S3x64 (vpow2 (subi (broadcast S3x1 0#32) (vexponent A))) broadcasts_S3x1_S3x64) (ix2 t d))
      = Spec.vcode (newB x2) t kv d := by
  have hp : vpow2 (F := Ideal) (subi (broadcast S3x1 0#32) (vexponent A)) (ix2 t 0) = Ideal.exp2 (0 - Spec.vexp (newB x2) t kv) := by
    rw [vpow2_apply]
    generalize hE : vexponent A = E
    pointwise []
    subst hE
    rw [vexponent_apply, hA]
    exact Spec.value_factor _ h t kv
  generalize vpow2 (F := Ideal) (subi (broadcast S3x1 0#32) (vexponent A)) = E at hp ⊢
  pointwise []
  rw [hp, hW]
  rfl

/-- The scale of a head's new values, from its scaled largest absolute values. -/
theorem scale_of (h : Spec.VnOk (newB x2)) (kv : Fin 4) (A : FVec Ideal S3x1 .f32)
    (hA : A (ix2 t 0) = Spec.amax (newB x2) t kv * Ideal.ofBits FTy.f32 991054117#32) :
    vpow2 (F := Ideal) (vexponent A) (ix2 t 0) = Spec.vscale (newB x2) t kv := by
  rw [vpow2_apply, vexponent_apply, hA]
  exact Spec.value_scale _ h t kv

/-- The first head's codes. -/
theorem code0_at (h : Spec.VnOk (newB x2)) (d : Fin 64) : code0 x2 (ix2 t d) = Spec.vcode (newB x2) t 0 d := by
  rw [code0_eq, vclip_apply]
  exact code_of x2 t h 0 _ _ (amax0_at x2 t) d (head0_at x2 t d)

/-- The first head's scales. -/
theorem scale0_at (h : Spec.VnOk (newB x2)) : scale0 x2 (ix2 t 0) = Spec.vscale (newB x2) t 0 := by
  rw [scale0_eq]
  exact scale_of x2 t h 0 _ (amax0_at x2 t)

/-- The second head's codes. -/
theorem code1_at (h : Spec.VnOk (newB x2)) (d : Fin 64) : code1 x2 (ix2 t d) = Spec.vcode (newB x2) t 1 d := by
  rw [code1_eq, vclip_apply]
  exact code_of x2 t h 1 _ _ (amax1_at x2 t) d (head1_at x2 t d)

/-- The second head's scales. -/
theorem scale1_at (h : Spec.VnOk (newB x2)) : scale1 x2 (ix2 t 0) = Spec.vscale (newB x2) t 1 := by
  rw [scale1_eq]
  exact scale_of x2 t h 1 _ (amax1_at x2 t)

/-- The third head's codes. -/
theorem code2_at (h : Spec.VnOk (newB x2)) (d : Fin 64) : code2 x2 (ix2 t d) = Spec.vcode (newB x2) t 2 d := by
  rw [code2_eq, vclip_apply]
  exact code_of x2 t h 2 _ _ (amax2_at x2 t) d (head2_at x2 t d)

/-- The third head's scales. -/
theorem scale2_at (h : Spec.VnOk (newB x2)) : scale2 x2 (ix2 t 0) = Spec.vscale (newB x2) t 2 := by
  rw [scale2_eq]
  exact scale_of x2 t h 2 _ (amax2_at x2 t)

/-- The fourth head's codes. -/
theorem scaled3_at (h : Spec.VnOk (newB x2)) (d : Fin 64) : Spec.clip (scaled3 x2 (ix2 t d)) = Spec.vcode (newB x2) t 3 d := by
  rw [scaled3_eq]
  exact code_of x2 t h 3 _ _ (amax3_at x2 t) d (head3_at x2 t d)

/-- The fourth head's scales. -/
theorem scale3_at (h : Spec.VnOk (newB x2)) : vpow2 (F := Ideal) (vexp3 x2) (ix2 t 0) = Spec.vscale (newB x2) t 3 := by
  rw [vexp3_eq]
  exact scale_of x2 t h 3 _ (amax3_at x2 t)

/-- The codes of the new values. -/
theorem vcode_at (h : Spec.VnOk (newB x2)) (j : Fin 256) :
    vcode x2 (ix2 t j) = Spec.vcode (newB x2) t (Spec.lH j) (Spec.lD j) := by
  have h0 := code0_at x2 t h
  have h1 := code1_at x2 t h
  have h2 := code2_at x2 t h
  have h3 := scaled3_at x2 t h
  unfold vcode
  generalize code0 x2 = C0 at h0 ⊢
  generalize code1 x2 = C1 at h1 ⊢
  generalize code2 x2 = C2 at h2 ⊢
  generalize scaled3 x2 = C3 at h3 ⊢
  pointwise [k0_pay53]
  have key : ∀ (kv : Fin 4) (d : Fin 64), j.val = kv.val * 64 + d.val →
      Spec.vcode (newB x2) t kv d = Spec.vcode (newB x2) t (Spec.lH j) (Spec.lD j) := by
    intro kv d e
    obtain rfl : j = Spec.lane kv d := Fin.ext e
    rw [Spec.lH_lane, Spec.lD_lane]
  by_cases c0 : j.val < 64
  · rw [dif_pos c0, h0]; exact key 0 _ (by show j.val = 0 * 64 + j.val; omega)
  rw [dif_neg c0]
  by_cases c1 : j.val - 64 < 64
  · rw [dif_pos c1, h1]; exact key 1 _ (by show j.val = 1 * 64 + (j.val - 64); omega)
  rw [dif_neg c1]
  by_cases c2 : j.val - 64 - 64 < 64
  · rw [dif_pos c2, h2]; exact key 2 _ (by show j.val = 2 * 64 + (j.val - 64 - 64); omega)
  rw [dif_neg c2]
  exact (h3 _).trans (key 3 _ (by show j.val = 3 * 64 + (j.val - 64 - 64 - 64); omega))

/-- The codes of the new values as they are written. -/
theorem vcodeOut_at (h : Spec.VnOk (newB x2)) (j : Fin 256) :
    vcodeOut x2 (ix3 0 t j) = Spec.vcode (newB x2) t (Spec.lH j) (Spec.lD j) := by
  have hk : vcodeOut x2 = shapeCast S1x3x256 (vcode x2) shapeCasts_S3x256_S1x3x256 := rfl
  have hc := vcode_at x2 t h j
  rw [hk]
  generalize vcode x2 = C at hc ⊢
  pointwise []
  exact hc

/-- The scales of the new values. -/
theorem vscale_at (h : Spec.VnOk (newB x2)) (kv : Fin 4) : vscale x2 (ix2 t kv) = Spec.vscale (newB x2) t kv := by
  have one : ∀ (C : FVec Ideal S3x1 .f32) (v : EReal), C (ix2 t 0) = v → ∀ m : Fin 1, C (ix2 t m) = v := fun C v e m => by
    rw [Subsingleton.elim m 0]; exact e
  have h0 := one _ _ (scale0_at x2 t h)
  have h1 := one _ _ (scale1_at x2 t h)
  have h2 := one _ _ (scale2_at x2 t h)
  have h3 := one _ _ (scale3_at x2 t h)
  unfold vscale
  generalize scale0 x2 = C0 at h0 ⊢
  generalize scale1 x2 = C1 at h1 ⊢
  generalize scale2 x2 = C2 at h2 ⊢
  have hp : k0_pay54 C0 C1 C2 (vexp3 x2) = concatenate S3x4 1 [⟨S3x1, C0⟩, ⟨S3x1, C1⟩, ⟨S3x1, C2⟩, ⟨S3x1, vpow2 (vexp3 x2)⟩] concatenates_S3x1_S3x1_S3x1_S3x1_S3x4_d1 := rfl
  rw [hp]
  generalize vpow2 (F := Ideal) (vexp3 x2) = C3 at h3 ⊢
  pointwise []
  have key : ∀ kv' : Fin 4, kv'.val = kv.val → Spec.vscale (newB x2) t kv' = Spec.vscale (newB x2) t kv := by
    intro kv' e
    obtain rfl : kv' = kv := Fin.ext e
    rfl
  by_cases c0 : kv.val < 1
  · rw [dif_pos c0, h0]; exact key 0 (by show 0 = kv.val; omega)
  rw [dif_neg c0]
  by_cases c1 : kv.val - 1 < 1
  · rw [dif_pos c1, h1]; exact key 1 (by show 1 = kv.val; omega)
  rw [dif_neg c1]
  by_cases c2 : kv.val - 1 - 1 < 1
  · rw [dif_pos c2, h2]; exact key 2 (by show 2 = kv.val; omega)
  rw [dif_neg c2, h3]
  exact key 3 (by show 3 = kv.val; omega)

/-- The scales of the new values as they are written. -/
theorem vscaleOut_at (h : Spec.VnOk (newB x2)) (kv : Fin 4) : vscaleOut x2 (ix3 0 t kv) = Spec.vscale (newB x2) t kv := by
  have hk : vscaleOut x2 = shapeCast S1x3x4 (vscale x2) shapeCasts_S3x4_S1x3x4 := rfl
  have hc := vscale_at x2 t h kv
  rw [hk]
  generalize vscale x2 = C at hc ⊢
  pointwise []
  exact hc

end Heads

end Cert.KernelIdeal.Block

end
-- ==== Proof.Mask.lean ====
module

public import proofs.«01_k».proof.Proof.Codes

/-! Which lanes belong to the head a row of the kernel reads, and which new position a row belongs to: the kernel's word
arithmetic is ordinary division. -/

@[expose] public section

set_option maxRecDepth 16384

noncomputable section

namespace Cert.KernelIdeal.Block

open Idealize.ShloMosaic Idealize.ShloMosaic.TcCoe Idealize.ShloMosaic.Tactic Idealize.SL.Sem
open Cert.KernelIdeal Cert.KernelIdeal.Gen

variable (n : BitVec 32) (x0 : Vec Ideal S1x96x64 .bf16) (x1 x2 : Vec Ideal S1x3x256 .bf16) (x3 : Vec Ideal S1x1x256 .f32)
  (x4 x5 : Vec Ideal S1x256x4096 .fp8e4m3) (x6 : Vec Ideal S1x4x4096 .f32)

section Mask

/-- Division of words rounded down, as the kernel spells it. -/
def floorDiv (w k : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt k 0#32)) (Scalar.extui (Scalar.cmpi CmpIPredicate.slt k 0#32))))
      (IntOp.cmpi CmpIPredicate.ne (IntOp.remsi ArithUnit.vector w k) 0#32))
    (IntOp.subi (IntOp.divsi ArithUnit.vector w k) 1#32)
    (IntOp.divsi ArithUnit.vector w k)

/-- The divisor with nought replaced by one. -/
def safe (k : BitVec 32) : BitVec 32 := Scalar.select (Scalar.cmpi CmpIPredicate.eq k 0#32) 1#32 k

/-- The remainder of words with the divisor's sign, as the kernel spells it. -/
def floorMod (w k : BitVec 32) : BitVec 32 :=
  Scalar.select
    (IntOp.andi
      (IntOp.xori (IntOp.cmpi CmpIPredicate.slt (IntOp.remsi ArithUnit.vector w (safe k)) 0#32) (Scalar.cmpi CmpIPredicate.slt (safe k) 0#32))
      (IntOp.cmpi CmpIPredicate.ne (IntOp.remsi ArithUnit.vector w (safe k)) 0#32))
    (IntOp.addi (IntOp.remsi ArithUnit.vector w (safe k)) (safe k))
    (IntOp.remsi ArithUnit.vector w (safe k))

/-- The head of a row, by the kernel's word arithmetic. -/
theorem row_head : ∀ r : Fin 96, floorMod (floorDiv (BitVec.ofNat 32 r.val) 8#32) 4#32 = BitVec.ofNat 32 (r.val / 8 % 4) := by
  decide +kernel

/-- The head of a lane, by the kernel's word arithmetic. -/
theorem lane_head : ∀ j : Fin 256, floorDiv (BitVec.ofNat 32 j.val) 64#32 = BitVec.ofNat 32 (j.val / 64) := by decide +kernel

/-- The new position of a row, by the kernel's word arithmetic. -/
theorem row_pos : ∀ r : Fin 96, floorDiv (BitVec.ofNat 32 r.val) 32#32 = BitVec.ofNat 32 (r.val / 32) := by decide +kernel

/-- A lane is a row's own where it belongs to the head the row reads. -/
theorem own_at (r : Fin 96) (j : Fin 256) : own (ix2 r j) = if r.val / 8 % 4 = j.val / 64 then 1#1 else 0#1 := by
  pointwise [own, k0_pay57, k0_pay58, k0_pay59, k0_pay60]
  refine Eq.trans (congrArg₂ (IntOp.cmpi CmpIPredicate.eq) (row_head r) (lane_head j)) ?_
  exact Spec.cmpi_eq_ofNat (by omega) (by omega)

/-- A choice by whether a lane is a row's own. -/
theorem select_own (r : Fin 96) (j : Fin 256) (a b : EReal) :
    Scalar.select (own (ix2 r j)) a b = if Spec.rH r = Spec.lH j then a else b := by
  rw [own_at]
  by_cases h : r.val / 8 % 4 = j.val / 64
  · rw [if_pos h, if_pos (Fin.ext h)]; rfl
  · rw [if_neg h, if_neg fun e => h (congrArg Fin.val e)]; rfl

end Mask

end Cert.KernelIdeal.Block

end
-- ==== Proof.Scores.lean ====
module

public import proofs.«01_k».proof.Proof.Mask

/-! The kernel's scores and weights, row by row: a row's lanes away from its own head are nought, and the rest is the
stated mathematics of the row's new position, head and place. -/

@[expose] public section

set_option maxRecDepth 16384

noncomputable section

namespace Cert.KernelIdeal.Block

open Idealize.ShloMosaic Idealize.ShloMosaic.TcCoe Idealize.ShloMosaic.Tactic Idealize.SL.Sem
open Cert.KernelIdeal Cert.KernelIdeal.Gen

variable (n : BitVec 32) (x0 : Vec Ideal S1x96x64 .bf16) (x1 x2 : Vec Ideal S1x3x256 .bf16) (x3 : Vec Ideal S1x1x256 .f32)
  (x4 x5 : Vec Ideal S1x256x4096 .fp8e4m3) (x6 : Vec Ideal S1x4x4096 .f32)

section Scores

variable (r : Fin 96)

/-- The key scales times the score scale. -/
theorem kscale_at (j : Fin 256) : kscale x3 (ix2 0 j) = ksB x3 (Spec.lH j) (Spec.lD j) * Ideal.ofBits FTy.f32 1040187392#32 := by
  pointwise [kscale, k0_pay61, k0_pay2]
  exact congrArg (fun l => x3 (ix3 0 0 l) * Ideal.ofBits FTy.f32 1040187392#32) (Spec.lane_eta j).symm

/-- A row of the queries, by its new position, head and place. -/
theorem q_row (j : Fin 256) (l : Fin 64) (h : l.val = j.val % 64) :
    x0 (ix3 0 r l) = qB x0 (Spec.rS r) (Spec.rH r) (Spec.rG r) (Spec.lD j) := by
  obtain rfl : l = Spec.lD j := Fin.ext h
  exact congrArg (fun m => x0 (ix3 0 m (Spec.lD j))) (Fin.ext (by show r.val = r.val / 32 * 32 + r.val / 8 % 4 * 8 + r.val % 8; omega))

/-- The masked, scaled queries. -/
theorem masked_at (j : Fin 256) : k0_pay62 own (kscale x3) x0 (ix2 r j)
    = if Spec.rH r = Spec.lH j then Spec.qs (qB x0) (ksB x3) (Spec.rS r) (Spec.rH r) (Spec.rG r) (Spec.lD j) else 0 := by
  have hk := kscale_at x3 j
  have ho := select_own r j
  generalize kscale x3 = K at hk ⊢
  generalize own = O at ho ⊢
  pointwise [k0_pay62]
  rw [ho, hk]
  by_cases h : Spec.rH r = Spec.lH j
  · rw [if_pos h, if_pos h]
    refine congrArg₂ (· * ·) ?_ (by rw [h])
    by_cases c0 : j.val < 64
    · rw [dif_pos c0]; exact q_row x0 r j _ (by show j.val = j.val % 64; omega)
    rw [dif_neg c0]
    by_cases c1 : j.val - 64 < 64
    · rw [dif_pos c1]; exact q_row x0 r j _ (by show j.val - 64 = j.val % 64; omega)
    rw [dif_neg c1]
    by_cases c2 : j.val - 64 - 64 < 64
    · rw [dif_pos c2]; exact q_row x0 r j _ (by show j.val - 64 - 64 = j.val % 64; omega)
    rw [dif_neg c2]
    exact q_row x0 r j _ (by show j.val - 64 - 64 - 64 = j.val % 64; omega)
  · rw [if_neg h, if_neg h]

/-- A product of the masked, scaled queries with an array of lanes. -/
theorem masked_sum (f : Fin 256 → EReal) : ∑ j, k0_pay62 own (kscale x3) x0 (ix2 r j) * f j
    = ∑ d, f (Spec.lane (Spec.rH r) d) * Spec.qs (qB x0) (ksB x3) (Spec.rS r) (Spec.rH r) (Spec.rG r) d := by
  rw [Spec.sum_lanes _ (Spec.rH r) fun j hj => ?_]
  · refine Finset.sum_congr rfl fun d _ => ?_
    rw [masked_at, Spec.lH_lane, Spec.lD_lane, if_pos rfl, mul_comm]
  · rw [masked_at, if_neg (Ne.symm hj), zero_mul]

/-- The scores against the cache. -/
theorem scores_at (p : Fin 4096) : scores n x0 x3 x4 (ix2 r p)
    = Spec.sc n (qB x0) (ksB x3) (cacheB x4) (Spec.rS r) (Spec.rH r) (Spec.rG r) p := by
  have hs := masked_sum x0 x3 r fun j => x4 (ix3 0 j p)
  unfold scores
  generalize kscale x3 = K at hs ⊢
  generalize own = O at hs ⊢
  unfold k0_pay63
  generalize k0_pay62 O K x0 = Q at hs ⊢
  pointwise []
  rw [hs]
  rfl

/-- The scores against the new keys, before the causal mask. -/
theorem rawNew_at (h : Spec.KsOk (ksB x3)) (t : Fin 3) : rawNew x0 x1 x3 (ix2 r t)
    = ∑ d, Spec.kcode (newB x1) (ksB x3) t (Spec.rH r) d * Spec.qs (qB x0) (ksB x3) (Spec.rS r) (Spec.rH r) (Spec.rG r) d := by
  have hs := masked_sum x0 x3 r fun j => kcode x1 x3 (ix2 t j)
  have hc : ∀ d, kcode x1 x3 (ix2 t (Spec.lane (Spec.rH r) d)) = Spec.kcode (newB x1) (ksB x3) t (Spec.rH r) d := fun d => by
    rw [kcode_at x1 x3 h, Spec.lH_lane, Spec.lD_lane]
  simp only [hc] at hs
  rw [← hs]
  unfold rawNew
  generalize kscale x3 = K
  generalize own = O
  generalize kcode x1 x3 = C
  unfold k0_pay64
  generalize k0_pay62 O K x0 = Q
  pointwise []

/-- The scores against the new keys. -/
theorem scoresNew_at (h : Spec.KsOk (ksB x3)) (t : Fin 3) : scoresNew x0 x1 x3 (ix2 r t)
    = Spec.sn (qB x0) (newB x1) (ksB x3) (Spec.rS r) (Spec.rH r) (Spec.rG r) t := by
  have hr := rawNew_at x0 x1 x3 r h t
  unfold scoresNew
  generalize rawNew x0 x1 x3 = R at hr ⊢
  pointwise [k0_pay68, k0_pay65, k0_pay66, k0_pay67]
  rw [hr]
  exact congrArg (fun w => Scalar.select (IntOp.cmpi CmpIPredicate.sle (BitVec.ofNat 32 t.val) w) _ _) (row_pos r)

end Scores

section Weights

/-- A maximum along the last of two axes, entry by entry. -/
theorem fold_last {n0 n1 : ℕ} (v : FVec Ideal (⟨2, ![n0, n1]⟩ : Shape) .f32) (acc : BitVec 32)
    (h : (⟨2, ![n0, n1]⟩ : Shape).Reduces [1] ⟨1, ![n0]⟩) (hφ) (hacc) (r : Fin n0) :
    multiReduction (F := Ideal) (φ := .f32) .maximumf [1] ⟨1, ![n0]⟩ v acc h hφ hacc (ix1 r)
      = Finset.fold max (Ideal.ofBits .f32 acc) (fun k : Fin n1 => v (ix2 r k)) Finset.univ := by
  pointwise []

variable (r : Fin 96)

/-- A maximum of two columns. -/
theorem max_cast (M M' : FVec Ideal S96 .f32) :
    maximumf (shapeCast S96x1 M shapeCasts_S96_S96x1) (shapeCast S96x1 M' shapeCasts_S96_S96x1) (ix2 r 0)
    = max (M (ix1 r)) (M' (ix1 r)) := by
  pointwise []

/-- The largest score, from the two families of scores. -/
theorem top_of (A : FVec Ideal S96x4096 .f32) (B : FVec Ideal S96x3 .f32) :
    maximumf
      (shapeCast S96x1 (multiReduction .maximumf [1] S96 A 0xFF800000#32 reduces_S96x4096_S96 (.inl rfl) rfl) shapeCasts_S96_S96x1)
      (shapeCast S96x1 (multiReduction .maximumf [1] S96 B 0xFF800000#32 reduces_S96x3_S96 (.inl rfl) rfl) shapeCasts_S96_S96x1) (ix2 r 0)
    = max (Finset.fold max (Ideal.ofBits .f32 4286578688#32) (fun p => A (ix2 r p)) Finset.univ)
        (Finset.fold max (Ideal.ofBits .f32 4286578688#32) (fun p => B (ix2 r p)) Finset.univ) :=
  (max_cast r _ _).trans (congrArg₂ max
    (fold_last A 0xFF800000#32 reduces_S96x4096_S96 (.inl rfl) rfl r)
    (fold_last B 0xFF800000#32 reduces_S96x3_S96 (.inl rfl) rfl r))

/-- The largest score of a row. -/
theorem rowMax_at (h : Spec.KsOk (ksB x3)) : rowMax n x0 x1 x3 x4 (ix2 r 0)
    = Spec.top n (qB x0) (newB x1) (ksB x3) (cacheB x4) (Spec.rS r) (Spec.rH r) (Spec.rG r) :=
  (top_of r (scores n x0 x3 x4) (scoresNew x0 x1 x3)).trans
    (congrArg₂ max
      (congrArg (fun f => Finset.fold max _ f Finset.univ) (funext fun p => scores_at n x0 x3 x4 r p))
      (congrArg (fun f => Finset.fold max _ f Finset.univ) (funext fun t => scoresNew_at x0 x1 x3 r h t)))

/-- A cached position's weight, from its score and the largest score. -/
theorem old_of (A : FVec Ideal S96x4096 .f32) (M : FVec Ideal S96x1 .f32) (p : Fin 4096) :
    exp (subf A (broadcastTo S96x4096 M broadcasts_S96x1_S96x4096)) (ix2 r p) = Ideal.exp (A (ix2 r p) - M (ix2 r 0)) := by
  pointwise []

/-- A new position's weight, from its score and the largest score. -/
theorem new_of (A : FVec Ideal S96x3 .f32) (M : FVec Ideal S96x1 .f32) (t : Fin 3) :
    exp (subf A (broadcastTo S96x3 M broadcasts_S96x1_S96x3)) (ix2 r t) = Ideal.exp (A (ix2 r t) - M (ix2 r 0)) := by
  pointwise []

/-- The weights of the cached positions. -/
theorem expOld_at (h : Spec.KsOk (ksB x3)) (p : Fin 4096) : expOld n x0 x1 x3 x4 (ix2 r p)
    = Spec.ec n (qB x0) (newB x1) (ksB x3) (cacheB x4) (Spec.rS r) (Spec.rH r) (Spec.rG r) p :=
  (old_of r (scores n x0 x3 x4) (rowMax n x0 x1 x3 x4) p).trans
    (congrArg₂ (fun u v => Ideal.exp (u - v)) (scores_at n x0 x3 x4 r p) (rowMax_at n x0 x1 x3 x4 r h))

/-- The weights of the new positions. -/
theorem expNew_at (h : Spec.KsOk (ksB x3)) (t : Fin 3) : expNew n x0 x1 x3 x4 (ix2 r t)
    = Spec.en n (qB x0) (newB x1) (ksB x3) (cacheB x4) (Spec.rS r) (Spec.rH r) (Spec.rG r) t :=
  (new_of r (scoresNew x0 x1 x3) (rowMax n x0 x1 x3 x4) t).trans
    (congrArg₂ (fun u v => Ideal.exp (u - v)) (scoresNew_at x0 x1 x3 r h t) (rowMax_at n x0 x1 x3 x4 r h))

/-- The sum of the weights, from the weights. -/
theorem sum_of (A : FVec Ideal S96x4096 .f32) (B : FVec Ideal S96x3 .f32) :
    addf
      (shapeCast S96x1 (multiReduction .add [1] S96 A 0x00000000#32 reduces_S96x4096_S96 (.inl rfl) rfl) shapeCasts_S96_S96x1)
      (shapeCast S96x1 (multiReduction .add [1] S96 B 0x00000000#32 reduces_S96x3_S96 (.inl rfl) rfl) shapeCasts_S96_S96x1) (ix2 r 0)
    = ∑ p, A (ix2 r p) + ∑ p, B (ix2 r p) := by
  pointwise []

/-- The sum of a row's weights. -/
theorem rowSum_at (h : Spec.KsOk (ksB x3)) : rowSum n x0 x1 x3 x4 (ix2 r 0)
    = Spec.den n (qB x0) (newB x1) (ksB x3) (cacheB x4) (Spec.rS r) (Spec.rH r) (Spec.rG r) :=
  (sum_of r (expOld n x0 x1 x3 x4) (expNew n x0 x1 x3 x4)).trans
    (congrArg₂ (· + ·)
      (Finset.sum_congr rfl fun p _ => expOld_at n x0 x1 x3 x4 r h p)
      (Finset.sum_congr rfl fun t _ => expNew_at n x0 x1 x3 x4 r h t))

end Weights

end Cert.KernelIdeal.Block

end
-- ==== Proof.Out.lean ====
module

public import proofs.«01_k».proof.Proof.Scores

/-! The kernel's attention output, entry by entry: a row's own slice of lanes is the stated mathematics and the other
slices are nought. -/

@[expose] public section

set_option maxRecDepth 16384

noncomputable section

namespace Cert.KernelIdeal.Block

open Idealize.ShloMosaic Idealize.ShloMosaic.TcCoe Idealize.ShloMosaic.Tactic Idealize.SL.Sem
open Cert.KernelIdeal Cert.KernelIdeal.Gen

variable (n : BitVec 32) (x0 : Vec Ideal S1x96x64 .bf16) (x1 x2 : Vec Ideal S1x3x256 .bf16) (x3 : Vec Ideal S1x1x256 .f32)
  (x4 x5 : Vec Ideal S1x256x4096 .fp8e4m3) (x6 : Vec Ideal S1x4x4096 .f32)

section Out

variable (r : Fin 96)

/-- The cache weights before the scales: the quotient of the exponentials times the rows of scales, group by group. -/
theorem weights_of (A : FVec Ideal S96x4096 .f32) (D : FVec Ideal S96x1 .f32) (W : FVec Ideal S96x4096 .f32) (p : Fin 4096) :
    truncf .bf16 (mulf (divf A (broadcastTo S96x4096 D broadcasts_S96x1_S96x4096)) W) bitsLt_bf16_f32 (ix2 r p)
      = Ideal.div (A (ix2 r p)) (D (ix2 r 0)) * W (ix2 r p) := by
  pointwise []

/-- The cached value scales laid out over the rows. -/
def rowScales : FVec Ideal S96x4096 .f32 :=
  have v732 : FVec Ideal S4x4096 .f32 := shapeCast S4x4096 x6 shapeCasts_S1x4x4096_S4x4096
  have a : FVec Ideal S8x4096 .f32 := broadcastTo S8x4096 (shapeCast S1x4096 (extractStridedSlice S1x4096 ![0, 0] v732 slices_S4x4096_o0_0_S1x4096) shapeCasts_S1x4096_S1x4096) broadcasts_S1x4096_S8x4096
  have b : FVec Ideal S8x4096 .f32 := broadcastTo S8x4096 (shapeCast S1x4096 (extractStridedSlice S1x4096 ![1, 0] v732 slices_S4x4096_o1_0_S1x4096) shapeCasts_S1x4096_S1x4096) broadcasts_S1x4096_S8x4096
  have c : FVec Ideal S8x4096 .f32 := broadcastTo S8x4096 (shapeCast S1x4096 (extractStridedSlice S1x4096 ![2, 0] v732 slices_S4x4096_o2_0_S1x4096) shapeCasts_S1x4096_S1x4096) broadcasts_S1x4096_S8x4096
  have d : FVec Ideal S8x4096 .f32 := broadcastTo S8x4096 (shapeCast S1x4096 (extractStridedSlice S1x4096 ![3, 0] v732 slices_S4x4096_o3_0_S1x4096) shapeCasts_S1x4096_S1x4096) broadcasts_S1x4096_S8x4096
  concatenate S96x4096 0 [⟨S8x4096, a⟩, ⟨S8x4096, b⟩, ⟨S8x4096, c⟩, ⟨S8x4096, d⟩, ⟨S8x4096, a⟩, ⟨S8x4096, b⟩, ⟨S8x4096, c⟩, ⟨S8x4096, d⟩, ⟨S8x4096, a⟩, ⟨S8x4096, b⟩, ⟨S8x4096, c⟩, ⟨S8x4096, d⟩]
    concatenates_S8x4096_S8x4096_S8x4096_S8x4096_S8x4096_S8x4096_S8x4096_S8x4096_S8x4096_S8x4096_S8x4096_S8x4096_S96x4096_d0

/-- A row's cached value scales are its head's. -/
theorem rowScales_at (p : Fin 4096) : rowScales x6 (ix2 r p) = vsB x6 p (Spec.rH r) := by
  unfold rowScales vsB
  pointwise []
  by_cases c0 : r.val < 8
  · rw [dif_pos c0]; exact congrArg (fun k => x6 (ix3 0 k p)) (Fin.ext (by show 0 = r.val / 8 % 4; omega))
  rw [dif_neg c0]
  by_cases c1 : r.val - 8 < 8
  · rw [dif_pos c1]; exact congrArg (fun k => x6 (ix3 0 k p)) (Fin.ext (by show 1 = r.val / 8 % 4; omega))
  rw [dif_neg c1]
  by_cases c2 : r.val - 8 - 8 < 8
  · rw [dif_pos c2]; exact congrArg (fun k => x6 (ix3 0 k p)) (Fin.ext (by show 2 = r.val / 8 % 4; omega))
  rw [dif_neg c2]
  by_cases c3 : r.val - 8 - 8 - 8 < 8
  · rw [dif_pos c3]; exact congrArg (fun k => x6 (ix3 0 k p)) (Fin.ext (by show 3 = r.val / 8 % 4; omega))
  rw [dif_neg c3]
  by_cases c4 : r.val - 8 - 8 - 8 - 8 < 8
  · rw [dif_pos c4]; exact congrArg (fun k => x6 (ix3 0 k p)) (Fin.ext (by show 0 = r.val / 8 % 4; omega))
  rw [dif_neg c4]
  by_cases c5 : r.val - 8 - 8 - 8 - 8 - 8 < 8
  · rw [dif_pos c5]; exact congrArg (fun k => x6 (ix3 0 k p)) (Fin.ext (by show 1 = r.val / 8 % 4; omega))
  rw [dif_neg c5]
  by_cases c6 : r.val - 8 - 8 - 8 - 8 - 8 - 8 < 8
  · rw [dif_pos c6]; exact congrArg (fun k => x6 (ix3 0 k p)) (Fin.ext (by show 2 = r.val / 8 % 4; omega))
  rw [dif_neg c6]
  by_cases c7 : r.val - 8 - 8 - 8 - 8 - 8 - 8 - 8 < 8
  · rw [dif_pos c7]; exact congrArg (fun k => x6 (ix3 0 k p)) (Fin.ext (by show 3 = r.val / 8 % 4; omega))
  rw [dif_neg c7]
  by_cases c8 : r.val - 8 - 8 - 8 - 8 - 8 - 8 - 8 - 8 < 8
  · rw [dif_pos c8]; exact congrArg (fun k => x6 (ix3 0 k p)) (Fin.ext (by show 0 = r.val / 8 % 4; omega))
  rw [dif_neg c8]
  by_cases c9 : r.val - 8 - 8 - 8 - 8 - 8 - 8 - 8 - 8 - 8 < 8
  · rw [dif_pos c9]; exact congrArg (fun k => x6 (ix3 0 k p)) (Fin.ext (by show 1 = r.val / 8 % 4; omega))
  rw [dif_neg c9]
  by_cases c10 : r.val - 8 - 8 - 8 - 8 - 8 - 8 - 8 - 8 - 8 - 8 < 8
  · rw [dif_pos c10]; exact congrArg (fun k => x6 (ix3 0 k p)) (Fin.ext (by show 2 = r.val / 8 % 4; omega))
  rw [dif_neg c10]
  exact congrArg (fun k => x6 (ix3 0 k p)) (Fin.ext (by show 3 = r.val / 8 % 4; omega))

/-- The cache weights, each times its value scale. -/
theorem weights_at (h : Spec.KsOk (ksB x3)) (p : Fin 4096) : weights n x0 x1 x3 x4 x6 (ix2 r p)
    = Ideal.div (Spec.ec n (qB x0) (newB x1) (ksB x3) (cacheB x4) (Spec.rS r) (Spec.rH r) (Spec.rG r) p)
        (Spec.den n (qB x0) (newB x1) (ksB x3) (cacheB x4) (Spec.rS r) (Spec.rH r) (Spec.rG r)) * vsB x6 p (Spec.rH r) := by
  refine (weights_of r (expOld n x0 x1 x3 x4) (rowSum n x0 x1 x3 x4) (rowScales x6) p).trans ?_
  rw [expOld_at n x0 x1 x3 x4 r h, rowSum_at n x0 x1 x3 x4 r h, rowScales_at]

/-- The new value scales laid out over the rows, from the scales and three of their rows. -/
def rowNew (v588 : FVec Ideal S3x4 .f32) (v753 v757 : FVec Ideal S8x3 .f32) (v760 : FVec Ideal S1x3 .f32) : FVec Ideal S96x3 .f32 :=
  have v761 : FVec Ideal S8x3 .f32 := broadcastTo S8x3 v760 broadcasts_S1x3_S8x3
  have v765 : FVec Ideal S8x3 .f32 := broadcastTo S8x3 (shapeCast S1x3 (extractStridedSlice S1x3 ![3, 0] (transpose S4x3 [1, 0] v588 transposes_S3x4_p1_0_S4x3) slices_S4x3_o3_0_S1x3) shapeCasts_S1x3_S1x3) broadcasts_S1x3_S8x3
  concatenate S96x3 0 [⟨S8x3, v753⟩, ⟨S8x3, v757⟩, ⟨S8x3, v761⟩, ⟨S8x3, v765⟩, ⟨S8x3, v753⟩, ⟨S8x3, v757⟩, ⟨S8x3, v761⟩, ⟨S8x3, v765⟩, ⟨S8x3, v753⟩, ⟨S8x3, v757⟩, ⟨S8x3, v761⟩, ⟨S8x3, v765⟩]
    concatenates_S8x3_S8x3_S8x3_S8x3_S8x3_S8x3_S8x3_S8x3_S8x3_S8x3_S8x3_S8x3_S96x3_d0

/-- A row's new value scales are its head's. -/
theorem rowNew_at (V : FVec Ideal S3x4 .f32) (t : Fin 3) :
    rowNew V (k0_pay74 V) (k0_pay75 V) (k0_pay76 V) (ix2 r t) = V (ix2 t (Spec.rH r)) := by
  have h0 : ∀ i : Fin 8, k0_pay74 V (ix2 i t) = V (ix2 t 0) := fun i => by pointwise [k0_pay74]
  have h1 : ∀ i : Fin 8, k0_pay75 V (ix2 i t) = V (ix2 t 1) := fun i => by pointwise [k0_pay75]
  have h2 : ∀ i : Fin 1, k0_pay76 V (ix2 i t) = V (ix2 t 2) := fun i => by
    rw [Subsingleton.elim i 0]
    pointwise [k0_pay76]
  generalize k0_pay74 V = A at h0 ⊢
  generalize k0_pay75 V = B at h1 ⊢
  generalize k0_pay76 V = C at h2 ⊢
  have key : ∀ k : Fin 4, k.val = r.val / 8 % 4 → V (ix2 t k) = V (ix2 t (Spec.rH r)) := by
    intro k e
    obtain rfl : k = Spec.rH r := Fin.ext e
    rfl
  unfold rowNew
  pointwise []
  by_cases c0 : r.val < 8
  · rw [dif_pos c0]; exact (h0 _).trans (key 0 (by show 0 = r.val / 8 % 4; omega))
  rw [dif_neg c0]
  by_cases c1 : r.val - 8 < 8
  · rw [dif_pos c1]; exact (h1 _).trans (key 1 (by show 1 = r.val / 8 % 4; omega))
  rw [dif_neg c1]
  by_cases c2 : r.val - 8 - 8 < 8
  · rw [dif_pos c2]; exact (h2 _).trans (key 2 (by show 2 = r.val / 8 % 4; omega))
  rw [dif_neg c2]
  by_cases c3 : r.val - 8 - 8 - 8 < 8
  · rw [dif_pos c3]; exact key 3 (by show 3 = r.val / 8 % 4; omega)
  rw [dif_neg c3]
  by_cases c4 : r.val - 8 - 8 - 8 - 8 < 8
  · rw [dif_pos c4]; exact (h0 _).trans (key 0 (by show 0 = r.val / 8 % 4; omega))
  rw [dif_neg c4]
  by_cases c5 : r.val - 8 - 8 - 8 - 8 - 8 < 8
  · rw [dif_pos c5]; exact (h1 _).trans (key 1 (by show 1 = r.val / 8 % 4; omega))
  rw [dif_neg c5]
  by_cases c6 : r.val - 8 - 8 - 8 - 8 - 8 - 8 < 8
  · rw [dif_pos c6]; exact (h2 _).trans (key 2 (by show 2 = r.val / 8 % 4; omega))
  rw [dif_neg c6]
  by_cases c7 : r.val - 8 - 8 - 8 - 8 - 8 - 8 - 8 < 8
  · rw [dif_pos c7]; exact key 3 (by show 3 = r.val / 8 % 4; omega)
  rw [dif_neg c7]
  by_cases c8 : r.val - 8 - 8 - 8 - 8 - 8 - 8 - 8 - 8 < 8
  · rw [dif_pos c8]; exact (h0 _).trans (key 0 (by show 0 = r.val / 8 % 4; omega))
  rw [dif_neg c8]
  by_cases c9 : r.val - 8 - 8 - 8 - 8 - 8 - 8 - 8 - 8 - 8 < 8
  · rw [dif_pos c9]; exact (h1 _).trans (key 1 (by show 1 = r.val / 8 % 4; omega))
  rw [dif_neg c9]
  by_cases c10 : r.val - 8 - 8 - 8 - 8 - 8 - 8 - 8 - 8 - 8 - 8 < 8
  · rw [dif_pos c10]; exact (h2 _).trans (key 2 (by show 2 = r.val / 8 % 4; omega))
  rw [dif_neg c10]
  exact key 3 (by show 3 = r.val / 8 % 4; omega)

/-- The last part of the output: the products with the cached and new values, masked, the four slices added. -/
def tail (v587 : FVec Ideal S3x256 .fp8e4m3) (v661 : IVec S96x256 1) (v725 : FVec Ideal S96x3 .f32) (v730 : FVec Ideal S96x1 .f32)
    (v749 : FVec Ideal S96x4096 .bf16) (v766 : FVec Ideal S96x3 .f32) (v771 : Vec Ideal S1x256x4096 .fp8e4m3) : FVec Ideal S1x96x64 .bf16 :=
  have v767 : FVec Ideal S96x3 .f32 := broadcastTo S96x3 v730 broadcasts_S96x1_S96x3
  have v770 : FVec Ideal S96x3 .bf16 := truncf .bf16 (mulf (divf v725 v767) v766) bitsLt_bf16_f32
  have v773 : FVec Ideal S256x4096 .bf16 := extf .bf16 (shapeCast S256x4096 v771 shapeCasts_S1x256x4096_S256x4096) bitsLt_fp8e4m3_bf16
  have v774 : FVec Ideal S96x256 .f32 := matmul dot_S96x4096_S256x4096_S96x256_1_1_0_0_n_n none v749 v773 (constant S96x256 .f32 0x00000000#32)
  have v776 : FVec Ideal S96x256 .f32 := matmul dot_S96x3_S3x256_S96x256_1_0_0_1_n_n none v770 (extf .bf16 v587 bitsLt_fp8e4m3_bf16) (constant S96x256 .f32 0x00000000#32)
  have v779 : FVec Ideal S96x256 .f32 := select v661 (addf v774 v776) (broadcast S96x256 (Scalar.ofBits .f32 0x00000000#32))
  have v782 : FVec Ideal S96x64 .f32 := addf (extractStridedSlice S96x64 ![0, 0] v779 slices_S96x256_o0_0_S96x64) (extractStridedSlice S96x64 ![0, 64] v779 slices_S96x256_o0_64_S96x64)
  have v784 : FVec Ideal S96x64 .f32 := addf v782 (extractStridedSlice S96x64 ![0, 128] v779 slices_S96x256_o0_128_S96x64)
  have v786 : FVec Ideal S96x64 .f32 := addf v784 (extractStridedSlice S96x64 ![0, 192] v779 slices_S96x256_o0_192_S96x64)
  shapeCast S1x96x64 (truncf .bf16 v786 bitsLt_bf16_f32) shapeCasts_S96x64_S1x96x64

/-- The output is that last part. -/
theorem attn_eq : attn n x0 x1 x2 x3 x4 x5 x6
    = tail (vcode x2) own (expNew n x0 x1 x3 x4) (rowSum n x0 x1 x3 x4) (weights n x0 x1 x3 x4 x6)
        (rowNew (vscale x2) (k0_pay74 (vscale x2)) (k0_pay75 (vscale x2)) (k0_pay76 (vscale x2))) x5 := rfl

/-- The products of a row with a lane of the cached and the new values. -/
def prod (v587 : FVec Ideal S3x256 .fp8e4m3) (v725 : FVec Ideal S96x3 .f32) (v730 : FVec Ideal S96x1 .f32)
    (v749 : FVec Ideal S96x4096 .bf16) (v766 : FVec Ideal S96x3 .f32) (v771 : Vec Ideal S1x256x4096 .fp8e4m3) (j : Fin 256) : EReal :=
  ∑ p, v749 (ix2 r p) * v771 (ix3 0 j p) + ∑ t, Ideal.div (v725 (ix2 r t)) (v730 (ix2 r 0)) * v766 (ix2 r t) * v587 (ix2 t j)

/-- The last part, entry by entry: the products with the lane of the row's own head. -/
theorem tail_at (v587 : FVec Ideal S3x256 .fp8e4m3) (v725 : FVec Ideal S96x3 .f32) (v730 : FVec Ideal S96x1 .f32)
    (v749 : FVec Ideal S96x4096 .bf16) (v766 : FVec Ideal S96x3 .f32) (v771 : Vec Ideal S1x256x4096 .fp8e4m3) (d : Fin 64) :
    tail v587 own v725 v730 v749 v766 v771 (ix3 0 r d) = prod r v587 v725 v730 v749 v766 v771 (Spec.lane (Spec.rH r) d) := by
  have ho := select_own r
  generalize own = O at ho ⊢
  pointwise [tail]
  rw [ho, ho, ho, ho]
  have key : ∀ (k : Fin 4) (j : Fin 256), j.val = k.val * 64 + d.val →
      (if Spec.rH r = Spec.lH j then prod r v587 v725 v730 v749 v766 v771 j else 0)
        = if Spec.rH r = k then prod r v587 v725 v730 v749 v766 v771 (Spec.lane (Spec.rH r) d) else 0 := by
    intro k j e
    obtain rfl : j = Spec.lane k d := Fin.ext e
    rw [Spec.lH_lane]
    by_cases hk : Spec.rH r = k
    · rw [if_pos hk, if_pos hk, hk]
    · rw [if_neg hk, if_neg hk]
  refine (congrArg₂ (· + ·) (congrArg₂ (· + ·) (congrArg₂ (· + ·)
    (key 0 ⟨d.val, by omega⟩ (by show d.val = 0 * 64 + d.val; omega)) (key 1 ⟨64 + d.val, by omega⟩ (by show 64 + d.val = 1 * 64 + d.val; omega)))
    (key 2 ⟨128 + d.val, by omega⟩ (by show 128 + d.val = 2 * 64 + d.val; omega)))
    (key 3 ⟨192 + d.val, by omega⟩ (by show 192 + d.val = 3 * 64 + d.val; omega))).trans ?_
  generalize prod r v587 v725 v730 v749 v766 v771 (Spec.lane (Spec.rH r) d) = y
  generalize Spec.rH r = k
  fin_cases k <;> simp

/-- The attention output of a block. -/
theorem attn_at (h : Spec.KsOk (ksB x3)) (h2 : Spec.VnOk (newB x2)) (d : Fin 64) :
    attn n x0 x1 x2 x3 x4 x5 x6 (ix3 0 r d)
      = Spec.attn n (qB x0) (newB x1) (newB x2) (ksB x3) (cacheB x4) (cacheB x5) (vsB x6) (Spec.rS r) (Spec.rH r) (Spec.rG r) d := by
  rw [attn_eq, tail_at]
  unfold prod Spec.attn
  simp only [weights_at n x0 x1 x3 x4 x6 r h, expNew_at n x0 x1 x3 x4 r h, rowSum_at n x0 x1 x3 x4 r h, rowNew_at,
    vscale_at x2 _ h2, vcode_at x2 _ h2, Spec.lH_lane, Spec.lD_lane]
  refine congrArg₂ (· + ·) (Finset.sum_congr rfl fun p _ => mul_comm _ _) (Finset.sum_congr rfl fun t _ => mul_comm _ _)

end Out

end Cert.KernelIdeal.Block

end
-- ==== Proof.RefBlock.lean ====
module

public import proofs.«01_k».proof.Proof.Gen.ReferenceIdeal.Value
public import proofs.«01_k».proof.Proof.Spec
public import Idealize.ShloMosaic.Lib.Pointwise

/-! What the reference computes, entry by entry: each of its four results is the stated mathematics of the batch entry. -/

@[expose] public section

set_option maxRecDepth 16384

noncomputable section

namespace Cert.ReferenceIdeal.Block

open Idealize.ShloMosaic Idealize.ShloMosaic.TcCoe Idealize.ShloMosaic.Tactic Idealize.SL.Sem
open Cert.ReferenceIdeal Cert.ReferenceIdeal.Gen

variable (x0 : Vec Ideal S128x3x32x64 .bf16) (x1 x2 : Vec Ideal S128x3x4x64 .bf16) (x3 x5 : Vec Ideal S128x4096x4x64 .fp8e4m3)
  (x4 : Vec Ideal S128x4x64 .f32) (x6 : Vec Ideal S128x4096x4 .f32) (x7 : Vec Ideal S128 .i32)

/-- The queries of a batch entry. -/
def qOf (b : Fin 128) (s : Fin 3) (kv : Fin 4) (g : Fin 8) (d : Fin 64) : EReal := x0 (ix4 b s ⟨kv.val * 8 + g.val, by omega⟩ d)
/-- The new keys, or the new values, of a batch entry. -/
def newOf (b : Fin 128) (t : Fin 3) (kv : Fin 4) (d : Fin 64) : EReal := x1 (ix4 b t kv d)
/-- The key scales of a batch entry. -/
def ksOf (b : Fin 128) (kv : Fin 4) (d : Fin 64) : EReal := x4 (ix3 b kv d)
/-- The cached keys, or the cached values, of a batch entry. -/
def cacheOf (b : Fin 128) (p : Fin 4096) (kv : Fin 4) (d : Fin 64) : EReal := x3 (ix4 b p kv d)
/-- The cached value scales of a batch entry. -/
def vsOf (b : Fin 128) (p : Fin 4096) (kv : Fin 4) : EReal := x6 (ix3 b p kv)

/-- A maximum along the last of five axes, entry by entry. -/
theorem fold_last {n0 n1 n2 n3 n4 : ℕ} (v : FVec Ideal (⟨5, ![n0, n1, n2, n3, n4]⟩ : Shape) .f32) (acc : BitVec 32)
    (h : (⟨5, ![n0, n1, n2, n3, n4]⟩ : Shape).Reduces [4] ⟨4, ![n0, n1, n2, n3]⟩) (hφ) (hacc)
    (b : Fin n0) (s : Fin n1) (kv : Fin n2) (g : Fin n3) :
    multiReduction (F := Ideal) (φ := .f32) .maximumf [4] ⟨4, ![n0, n1, n2, n3]⟩ v acc h hφ hacc (ix4 b s kv g)
      = Finset.fold max (Ideal.ofBits .f32 acc) (fun k : Fin n4 => v (ix5 b s kv g k)) Finset.univ := by
  pointwise []

section Codes

variable (b : Fin 128) (t : Fin 3) (kv : Fin 4) (d : Fin 64)

/-- The codes of the new keys. -/
theorem kcode_at : k0_pay4 x4 x1 (ix4 b t kv d) = Spec.kcode (newOf x1 b) (ksOf x4 b) t kv d := by
  pointwise [k0_pay4]
  rfl

/-- The exponents of the new values. -/
theorem vexp_at : k0_pay6 x2 (ix3 b t kv) = Spec.vexp (newOf x2 b) t kv := by
  pointwise [k0_pay6, k0_pay5]
  rfl

/-- The codes of the new values. -/
theorem vcode_at : k0_pay7 x2 (ix4 b t kv d) = Spec.vcode (newOf x2 b) t kv d := by
  unfold k0_pay7
  generalize hE : k0_pay6 x2 = E
  have h := vexp_at x2 b t kv
  rw [hE] at h
  pointwise [k0_pay5]
  rw [h]
  rfl

/-- The scales of the new values. -/
theorem vscale_at : k0_pay8 x2 (ix3 b t kv) = Spec.vscale (newOf x2 b) t kv := by
  unfold k0_pay8
  generalize hE : k0_pay6 x2 = E
  have h := vexp_at x2 b t kv
  rw [hE] at h
  pointwise []
  rw [h]
  rfl

end Codes

section Scores

variable (b : Fin 128) (s : Fin 3) (kv : Fin 4) (g : Fin 8)

/-- The scaled queries. -/
theorem qs_at (d : Fin 64) : k0_pay9 x0 x4 (ix5 b s kv g d) = Spec.qs (qOf x0 b) (ksOf x4 b) s kv g d := by
  pointwise [k0_pay9]
  rfl

/-- The cached keys as they are read. -/
theorem ck_at (p : Fin 4096) (d : Fin 64) : k0_pay10 x3 (ix4 b p kv d) = cacheOf x3 b p kv d := by
  pointwise [k0_pay10]
  rfl

/-- The scores against the cache. -/
theorem sc_at (p : Fin 4096) : k0_pay11 x7 (k0_pay9 x0 x4) (k0_pay10 x3) (ix5 b s kv g p)
    = Spec.sc (x7 (ix1 b)) (qOf x0 b) (ksOf x4 b) (cacheOf x3 b) s kv g p := by
  have h1 := qs_at x0 x4 b s kv g
  have h2 := ck_at x3 b kv p
  generalize k0_pay9 x0 x4 = Q at h1 ⊢
  generalize k0_pay10 x3 = C at h2 ⊢
  pointwise [k0_pay11]
  simp only [h1, h2]
  rfl

/-- The scores against the new keys. -/
theorem sn_at (t : Fin 3) : k0_pay12 (k0_pay4 x4 x1) (k0_pay9 x0 x4) (ix5 b s kv g t)
    = Spec.sn (qOf x0 b) (newOf x1 b) (ksOf x4 b) s kv g t := by
  have h1 := qs_at x0 x4 b s kv g
  have h2 := kcode_at x1 x4 b t kv
  generalize k0_pay9 x0 x4 = Q at h1 ⊢
  generalize k0_pay4 x4 x1 = C at h2 ⊢
  pointwise [k0_pay12]
  simp only [h1, h2]
  rfl

/-- A maximum of two arrays, given one more axis of extent one. -/
theorem max_cast (M M' : FVec Ideal S128x3x4x8 .f32) :
    shapeCast S128x3x4x8x1 (maximumf M M') shapeCasts_S128x3x4x8_S128x3x4x8x1 (ix5 b s kv g 0)
    = max (M (ix4 b s kv g)) (M' (ix4 b s kv g)) := by
  pointwise []

/-- The largest score, from the two families of scores. -/
theorem top_of (A : FVec Ideal S128x3x4x8x4096 .f32) (B : FVec Ideal S128x3x4x8x3 .f32) :
    shapeCast S128x3x4x8x1 (maximumf
      (multiReduction .maximumf [4] S128x3x4x8 A 0xFF800000#32 reduces_S128x3x4x8x4096_S128x3x4x8 (.inl rfl) rfl)
      (multiReduction .maximumf [4] S128x3x4x8 B 0xFF800000#32 reduces_S128x3x4x8x3_S128x3x4x8 (.inl rfl) rfl))
      shapeCasts_S128x3x4x8_S128x3x4x8x1 (ix5 b s kv g 0)
    = max (Finset.fold max (Ideal.ofBits .f32 4286578688#32) (fun p => A (ix5 b s kv g p)) Finset.univ)
        (Finset.fold max (Ideal.ofBits .f32 4286578688#32) (fun p => B (ix5 b s kv g p)) Finset.univ) :=
  (max_cast b s kv g _ _).trans (congrArg₂ max
    (fold_last A 0xFF800000#32 reduces_S128x3x4x8x4096_S128x3x4x8 (.inl rfl) rfl b s kv g)
    (fold_last B 0xFF800000#32 reduces_S128x3x4x8x3_S128x3x4x8 (.inl rfl) rfl b s kv g))

/-- The largest score. -/
theorem top_at : k0_pay13 x7 (k0_pay4 x4 x1) (k0_pay9 x0 x4) (k0_pay10 x3) (ix5 b s kv g 0)
    = Spec.top (x7 (ix1 b)) (qOf x0 b) (newOf x1 b) (ksOf x4 b) (cacheOf x3 b) s kv g :=
  (top_of b s kv g (k0_pay11 x7 (k0_pay9 x0 x4) (k0_pay10 x3)) (k0_pay12 (k0_pay4 x4 x1) (k0_pay9 x0 x4))).trans
    (congrArg₂ max
      (congrArg (fun f => Finset.fold max _ f Finset.univ) (funext fun p => sc_at x0 x3 x4 x7 b s kv g p))
      (congrArg (fun f => Finset.fold max _ f Finset.univ) (funext fun t => sn_at x0 x1 x4 b s kv g t)))

end Scores

end Cert.ReferenceIdeal.Block

end
-- ==== Proof.RefOut.lean ====
module

public import proofs.«01_k».proof.Proof.RefBlock

/-! The reference's weights and its four results, entry by entry. -/

@[expose] public section

set_option maxRecDepth 16384

noncomputable section

namespace Cert.ReferenceIdeal.Block

open Idealize.ShloMosaic Idealize.ShloMosaic.TcCoe Idealize.ShloMosaic.Tactic Idealize.SL.Sem
open Cert.ReferenceIdeal Cert.ReferenceIdeal.Gen

variable (x0 : Vec Ideal S128x3x32x64 .bf16) (x1 x2 : Vec Ideal S128x3x4x64 .bf16) (x3 x5 : Vec Ideal S128x4096x4x64 .fp8e4m3)
  (x4 : Vec Ideal S128x4x64 .f32) (x6 : Vec Ideal S128x4096x4 .f32) (x7 : Vec Ideal S128 .i32)

section Weights

variable (b : Fin 128) (s : Fin 3) (kv : Fin 4) (g : Fin 8)

/-- A cached position's weight, from its score and the largest score. -/
theorem ec_of (A : FVec Ideal S128x3x4x8x4096 .f32) (M : FVec Ideal S128x3x4x8x1 .f32) (p : Fin 4096) :
    exp (subf A (broadcastTo S128x3x4x8x4096 M broadcasts_S128x3x4x8x1_S128x3x4x8x4096)) (ix5 b s kv g p)
      = Ideal.exp (A (ix5 b s kv g p) - M (ix5 b s kv g 0)) := by
  pointwise []

/-- A new position's weight, from its score and the largest score. -/
theorem en_of (A : FVec Ideal S128x3x4x8x3 .f32) (M : FVec Ideal S128x3x4x8x1 .f32) (t : Fin 3) :
    exp (subf A (broadcastTo S128x3x4x8x3 M broadcasts_S128x3x4x8x1_S128x3x4x8x3)) (ix5 b s kv g t)
      = Ideal.exp (A (ix5 b s kv g t) - M (ix5 b s kv g 0)) := by
  pointwise []

/-- The weights of the cached positions. -/
theorem ec_at (p : Fin 4096) : k0_pay14 x7 (k0_pay4 x4 x1) (k0_pay9 x0 x4) (k0_pay10 x3) (ix5 b s kv g p)
    = Spec.ec (x7 (ix1 b)) (qOf x0 b) (newOf x1 b) (ksOf x4 b) (cacheOf x3 b) s kv g p :=
  (ec_of b s kv g (k0_pay11 x7 (k0_pay9 x0 x4) (k0_pay10 x3)) (k0_pay13 x7 (k0_pay4 x4 x1) (k0_pay9 x0 x4) (k0_pay10 x3)) p).trans
    (congrArg₂ (fun u v => Ideal.exp (u - v)) (sc_at x0 x3 x4 x7 b s kv g p) (top_at x0 x1 x3 x4 x7 b s kv g))

/-- The weights of the new positions. -/
theorem en_at (t : Fin 3) : k0_pay15 x7 (k0_pay4 x4 x1) (k0_pay9 x0 x4) (k0_pay10 x3) (ix5 b s kv g t)
    = Spec.en (x7 (ix1 b)) (qOf x0 b) (newOf x1 b) (ksOf x4 b) (cacheOf x3 b) s kv g t :=
  (en_of b s kv g (k0_pay12 (k0_pay4 x4 x1) (k0_pay9 x0 x4)) (k0_pay13 x7 (k0_pay4 x4 x1) (k0_pay9 x0 x4) (k0_pay10 x3)) t).trans
    (congrArg₂ (fun u v => Ideal.exp (u - v)) (sn_at x0 x1 x4 b s kv g t) (top_at x0 x1 x3 x4 x7 b s kv g))

/-- The sum of the weights, from the weights. -/
theorem den_of (A : FVec Ideal S128x3x4x8x4096 .f32) (B : FVec Ideal S128x3x4x8x3 .f32) :
    shapeCast S128x3x4x8x1 (addf
      (multiReduction .add [4] S128x3x4x8 A 0x00000000#32 reduces_S128x3x4x8x4096_S128x3x4x8 (.inl rfl) rfl)
      (multiReduction .add [4] S128x3x4x8 B 0x00000000#32 reduces_S128x3x4x8x3_S128x3x4x8 (.inl rfl) rfl))
      shapeCasts_S128x3x4x8_S128x3x4x8x1 (ix5 b s kv g 0)
    = ∑ p, A (ix5 b s kv g p) + ∑ p, B (ix5 b s kv g p) := by
  pointwise []

/-- The sum of the weights. -/
theorem den_at : k0_pay16 x7 (k0_pay4 x4 x1) (k0_pay9 x0 x4) (k0_pay10 x3) (ix5 b s kv g 0)
    = Spec.den (x7 (ix1 b)) (qOf x0 b) (newOf x1 b) (ksOf x4 b) (cacheOf x3 b) s kv g :=
  (den_of b s kv g (k0_pay14 x7 (k0_pay4 x4 x1) (k0_pay9 x0 x4) (k0_pay10 x3)) (k0_pay15 x7 (k0_pay4 x4 x1) (k0_pay9 x0 x4) (k0_pay10 x3))).trans
    (congrArg₂ (· + ·)
      (Finset.sum_congr rfl fun p _ => ec_at x0 x1 x3 x4 x7 b s kv g p)
      (Finset.sum_congr rfl fun t _ => en_at x0 x1 x3 x4 x7 b s kv g t))

/-- The cached value scales as they are read. -/
theorem vs_at (p : Fin 4096) : k0_pay17 x6 (ix5 b 0 kv 0 p) = vsOf x6 b p kv := by
  pointwise [k0_pay17]
  rfl

/-- The new value scales as they are read. -/
theorem vsn_at (t : Fin 3) : k0_pay18 (k0_pay8 x2) (ix3 b kv t) = Spec.vscale (newOf x2 b) t kv := by
  have h := vscale_at x2 b t kv
  generalize k0_pay8 x2 = E at h ⊢
  pointwise [k0_pay18]
  exact h

end Weights

section Results

variable (b : Fin 128) (r : Fin 96) (d : Fin 64)

/-- The output, from the codes, the weights, their sum and the scales. -/
theorem attn_of (v68 : FVec Ideal S128x3x4x64 .fp8e4m3) (v116 : FVec Ideal S128x3x4x8x4096 .f32) (v119 : FVec Ideal S128x3x4x8x3 .f32)
    (v123 : FVec Ideal S128x3x4x8x1 .f32) (v126 : FVec Ideal S128x1x4x1x4096 .f32) (v127 : FVec Ideal S128x4x3 .f32)
    (v139 : Vec Ideal S128x4096x4x64 .fp8e4m3) :
    k0_pay1 v68 v116 v119 v123 v126 v127 v139 (ix3 b r d)
    = ∑ p, v139 (ix4 b p (Spec.rH r) d) * (Ideal.div (v116 (ix5 b (Spec.rS r) (Spec.rH r) (Spec.rG r) p)) (v123 (ix5 b (Spec.rS r) (Spec.rH r) (Spec.rG r) 0)) * v126 (ix5 b 0 (Spec.rH r) 0 p))
      + ∑ t, v68 (ix4 b t (Spec.rH r) d) * (Ideal.div (v119 (ix5 b (Spec.rS r) (Spec.rH r) (Spec.rG r) t)) (v123 (ix5 b (Spec.rS r) (Spec.rH r) (Spec.rG r) 0)) * v127 (ix3 b (Spec.rH r) t)) := by
  pointwise [k0_pay1]

/-- The attention output. -/
theorem attn_at : k0_pay1 (k0_pay7 x2) (k0_pay14 x7 (k0_pay4 x4 x1) (k0_pay9 x0 x4) (k0_pay10 x3))
      (k0_pay15 x7 (k0_pay4 x4 x1) (k0_pay9 x0 x4) (k0_pay10 x3)) (k0_pay16 x7 (k0_pay4 x4 x1) (k0_pay9 x0 x4) (k0_pay10 x3))
      (k0_pay17 x6) (k0_pay18 (k0_pay8 x2)) x5 (ix3 b r d)
    = Spec.attn (x7 (ix1 b)) (qOf x0 b) (newOf x1 b) (newOf x2 b) (ksOf x4 b) (cacheOf x3 b) (cacheOf x5 b) (vsOf x6 b)
        (Spec.rS r) (Spec.rH r) (Spec.rG r) d := by
  rw [attn_of]
  simp only [ec_at, en_at, den_at, vs_at, vsn_at, vcode_at]
  rfl

/-- The key codes as they are written. -/
theorem kcodeOut_at (t : Fin 3) (j : Fin 256) : k0_pay2 (k0_pay4 x4 x1) (ix3 b t j)
    = Spec.kcode (newOf x1 b) (ksOf x4 b) t (Spec.lH j) (Spec.lD j) := by
  have h := kcode_at x1 x4 b t
  generalize k0_pay4 x4 x1 = C at h ⊢
  pointwise [k0_pay2]
  exact h _ _

/-- The value codes as they are written. -/
theorem vcodeOut_at (t : Fin 3) (j : Fin 256) : k0_pay3 (k0_pay7 x2) (ix3 b t j)
    = Spec.vcode (newOf x2 b) t (Spec.lH j) (Spec.lD j) := by
  have h := vcode_at x2 b t
  generalize k0_pay7 x2 = C at h ⊢
  pointwise [k0_pay3]
  exact h _ _

end Results

end Cert.ReferenceIdeal.Block

end
-- ==== Proof.Result.lean ====
module

public import proofs.«01_k».proof.Proof.RefOut

/-! The four results, each as one function of the arguments: the stated mathematics of each batch entry. -/

@[expose] public section

set_option maxRecDepth 16384

noncomputable section

namespace Cert.ReferenceIdeal.Block

open Idealize.ShloMosaic Idealize.ShloMosaic.TcCoe Idealize.ShloMosaic.Tactic Idealize.SL.Sem
open Cert.ReferenceIdeal Cert.ReferenceIdeal.Gen

variable (x0 : Vec Ideal S128x3x32x64 .bf16) (x1 x2 : Vec Ideal S128x3x4x64 .bf16) (x3 : Vec Ideal S128x4096x4x64 .fp8e4m3)
  (x4 : Vec Ideal S128x4x64 .f32) (x5 : Vec Ideal S128x4096x4x64 .fp8e4m3) (x6 : Vec Ideal S128x4096x4 .f32) (x7 : Vec Ideal S128 .i32)

/-- The attention output. -/
def attnR : Vec Ideal S128x96x64 .bf16 := fun i =>
  Spec.attn (x7 (ix1 (i 0))) (qOf x0 (i 0)) (newOf x1 (i 0)) (newOf x2 (i 0)) (ksOf x4 (i 0)) (cacheOf x3 (i 0)) (cacheOf x5 (i 0)) (vsOf x6 (i 0))
    (Spec.rS (i 1)) (Spec.rH (i 1)) (Spec.rG (i 1)) (i 2)
/-- The codes of the new keys. -/
def kcodeR : Vec Ideal S128x3x256 .fp8e4m3 := fun i => Spec.kcode (newOf x1 (i 0)) (ksOf x4 (i 0)) (i 1) (Spec.lH (i 2)) (Spec.lD (i 2))
/-- The codes of the new values. -/
def vcodeR : Vec Ideal S128x3x256 .fp8e4m3 := fun i => Spec.vcode (newOf x2 (i 0)) (i 1) (Spec.lH (i 2)) (Spec.lD (i 2))
/-- The scales of the new values. -/
def vscaleR : Vec Ideal S128x3x4 .f32 := fun i => Spec.vscale (newOf x2 (i 0)) (i 1) (i 2)

/-- Three offsets of nought. -/
theorem hz3 : (![0, 0, 0] : Fin 3 → ℕ) = fun _ => 0 := by decide
/-- Four offsets of nought. -/
theorem hz4 : (![0, 0, 0, 0] : Fin 4 → ℕ) = fun _ => 0 := by decide

/-- The reference's first result. -/
theorem G8_eq : Value.G8 (F := Ideal) x0 x1 x2 x3 x4 x5 x6 x7 = attnR x0 x1 x2 x3 x4 x5 x6 x7 := by
  unfold Value.G8
  unfold k0_pay20 k0_pay21 k0_pay19 k0_pay22 k0_pay23
  simp only [View.ld_unit_zero (S := S128x3x32x64) hz4, View.ld_unit_zero (S := S128x3x4x64) hz4, View.ld_unit_zero (S := S128x4096x4x64) hz4, View.ld_unit_zero (S := S128x4x64) hz3]
  funext i
  refine (congrArg _ (eq_ix3 i)).trans ?_
  exact attn_at x0 x1 x2 x3 x5 x4 x6 x7 (i 0) (i 1) (i 2)

/-- The reference's second result. -/
theorem G9_eq : Value.G9 (F := Ideal) x0 x1 x2 x3 x4 x5 x6 x7 = kcodeR x1 x4 := by
  unfold Value.G9
  unfold k0_pay19
  simp only [View.ld_unit_zero (S := S128x3x4x64) hz4, View.ld_unit_zero (S := S128x4x64) hz3]
  funext i
  refine (congrArg _ (eq_ix3 i)).trans ?_
  exact kcodeOut_at x1 x4 (i 0) (i 1) (i 2)

/-- The reference's third result. -/
theorem G10_eq : Value.G10 (F := Ideal) x0 x1 x2 x3 x4 x5 x6 x7 = vcodeR x2 := by
  unfold Value.G10
  unfold k0_pay20
  simp only [View.ld_unit_zero (S := S128x3x4x64) hz4]
  funext i
  refine (congrArg _ (eq_ix3 i)).trans ?_
  exact vcodeOut_at x2 (i 0) (i 1) (i 2)

/-- The reference's fourth result. -/
theorem G11_eq : Value.G11 (F := Ideal) x0 x1 x2 x3 x4 x5 x6 x7 = vscaleR x2 := by
  unfold Value.G11
  unfold k0_pay21
  simp only [View.ld_unit_zero (S := S128x3x4x64) hz4]
  funext i
  refine (congrArg _ (eq_ix3 i)).trans ?_
  exact vscale_at x2 (i 0) (i 1) (i 2)

end Cert.ReferenceIdeal.Block

end
-- ==== Proof.Arrays.lean ====
module

public import proofs.«01_k».proof.Proof.Entry
public import proofs.«01_k».proof.Proof.Out
public import proofs.«01_k».proof.Proof.Result
public import Idealize.ShloMosaic.Lib.Pipeline.Value

/-! The kernel's four result arrays after the run: each is the stated function of the arguments. -/

@[expose] public section

set_option maxRecDepth 16384

noncomputable section

namespace Cert.KernelIdeal.Arrays

open Idealize.ShloMosaic Idealize.ShloMosaic.TcCoe Idealize.ShloMosaic.Tactic Idealize.SL.Sem
open Cert.KernelIdeal Cert.KernelIdeal.Gen Cert.KernelIdeal.Block Cert.KernelIdeal.Entry
open Cert.ReferenceIdeal.Block (qOf newOf ksOf cacheOf vsOf attnR kcodeR vcodeR vscaleR)
open Idealize.ShloMosaic.Pipeline (Dat)

variable (m : (ℓ : Loc nD τ sig) → Buf (Elt Ideal) ℓ) (c : Dev nD) (hO : Ok m) (t : Fin (cfgM m hO).grid.N)

/-- The batch entry a point works on. -/
abbrev bat : Fin 128 := ⟨t.val, t.isLt⟩

/-- The queries a point reads. -/
theorem q_eq : qB (iblk m hO c 0 t) = qOf (m ((c : Thread nD τ).loc main_arg0)) (bat m hO t) := by
  funext s kv g d
  exact (blk0_at m c hO t _ d).trans (v5_at m c _ s kv g d)

/-- The new keys a point reads. -/
theorem kn_eq : newB (iblk m hO c 1 t) = newOf (m ((c : Thread nD τ).loc main_arg1)) (bat m hO t) := by
  funext s kv d
  exact (blk1_at m c hO t _ _).trans (v6_at m c _ s kv d)

/-- The new values a point reads. -/
theorem vn_eq : newB (iblk m hO c 2 t) = newOf (m ((c : Thread nD τ).loc main_arg2)) (bat m hO t) := by
  funext s kv d
  exact (blk2_at m c hO t _ _).trans (v7_at m c _ s kv d)

/-- The key scales a point reads. -/
theorem ks_eq : ksB (iblk m hO c 3 t) = ksOf (m ((c : Thread nD τ).loc main_arg4)) (bat m hO t) := by
  funext kv d
  exact (blk3_at m c hO t _ _).trans (v8_at m c _ kv d)

/-- The cached keys a point reads. -/
theorem ck_eq : cacheB (iblk m hO c 4 t) = cacheOf (m ((c : Thread nD τ).loc main_arg3)) (bat m hO t) := by
  funext p kv d
  exact (blk4_at m c hO t _ _).trans (v1_at m c _ p kv d)

/-- The cached values a point reads. -/
theorem cv_eq : cacheB (iblk m hO c 5 t) = cacheOf (m ((c : Thread nD τ).loc main_arg5)) (bat m hO t) := by
  funext p kv d
  exact (blk5_at m c hO t _ _).trans (v3_at m c _ p kv d)

/-- The cached value scales a point reads. -/
theorem vs_eq : vsB (iblk m hO c 6 t) = vsOf (m ((c : Thread nD τ).loc main_arg6)) (bat m hO t) := by
  funext p kv
  exact (blk6_at m c hO t _ _).trans (v4_at m c _ p kv)

/-- A point's coordinate is its number. -/
theorem coord_val : ∀ t : Fin grid0.N, ((grid0.coords t) 0).val = t.val := by decide +kernel

/-- The length a point reads. -/
theorem len_eq : lenAt (F := Ideal) c (grid0.coords t) (tbl m 0) = m ((c : Thread nD τ).loc main_arg7) (ix1 (bat m hO t)) := by
  obtain rfl : c = 0 := Subsingleton.elim _ _
  refine (congrFun (V_main_arg7 m 0) _).trans ?_
  refine congrArg _ (congrArg (fun x => ix1 x) (Fin.ext ?_))
  exact coord_val t

/-- The block of the attention output a point leaves. -/
theorem outs7 : (outsAt0 m hO c t).1 = attn (lenAt c (grid0.coords t) (tbl m 0)) (iblk m hO c 0 t) (iblk m hO c 1 t) (iblk m hO c 2 t) (iblk m hO c 3 t) (iblk m hO c 4 t) (iblk m hO c 5 t) (iblk m hO c 6 t) := by
  unfold outsAt0
  dsimp only
  exact out_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (tbl m 0)

/-- The block of the key codes a point leaves. -/
theorem outs8 : (outsAt0 m hO c t).2.1 = kcodeOut (iblk m hO c 1 t) (iblk m hO c 3 t) := by
  unfold outsAt0
  dsimp only
  exact out_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (tbl m 0)

/-- The block of the value codes a point leaves. -/
theorem outs9 : (outsAt0 m hO c t).2.2.1 = vcodeOut (iblk m hO c 2 t) := by
  unfold outsAt0
  dsimp only
  exact out_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (tbl m 0)

/-- The block of the value scales a point leaves. -/
theorem outs10 : (outsAt0 m hO c t).2.2.2 = vscaleOut (iblk m hO c 2 t) := by
  unfold outsAt0
  dsimp only
  exact out_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (tbl m 0)

variable (hks : ∀ b, Spec.KsOk (ksOf (m ((c : Thread nD τ).loc main_arg4)) b)) (hvn : ∀ b, Spec.VnOk (newOf (m ((c : Thread nD τ).loc main_arg2)) b))

include hks hvn in
/-- What a point writes of the attention output. -/
theorem flushed7 : (dats m hO 0 c).flushed 7 t = (((cfgM m hO).win 7).blk t).view.read (Elt Ideal)
    (attnR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show ((cfgM m hO).win 7).cut ((cfgM m hO).grid.coords t) ((dats m hO 0 c).after 7 t) = _
  rw [after0_7, outs7]
  funext y
  have hy : ∀ y : S1x96x64.Idx, ∃ (z : Fin 1) (r : Fin 96) (d : Fin 64), y = ix3 z r d := fun y => ⟨y 0, y 1, y 2, eq_ix3 y⟩
  obtain ⟨z, r, d, rfl⟩ := hy y
  obtain rfl : z = 0 := Subsingleton.elim _ _
  refine Eq.trans ?_ (congrArg (attnR _ _ _ _ _ _ _ _) (emb7 m hO t 0 r d)).symm
  refine (attn_at _ _ _ _ _ _ _ _ r (by rw [ks_eq]; exact hks _) (by rw [vn_eq]; exact hvn _) d).trans ?_
  rw [q_eq, kn_eq, vn_eq, ks_eq, ck_eq, cv_eq, vs_eq, len_eq m c hO t]
  rfl

include hks hvn in
/-- The array of the attention output after the run. -/
theorem final7 : (dats m hO 0 c).arrAt 7 (cfgM m hO).N = attnR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m hO 0 c).arrAt_eq_of_cover 7 (attnR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed7 m c hO t hks hvn) (cover7 m hO)

include hks in
/-- What a point writes of the key codes. -/
theorem flushed8 : (dats m hO 0 c).flushed 8 t = (((cfgM m hO).win 8).blk t).view.read (Elt Ideal)
    (kcodeR (m ((c : Thread nD τ).loc main_arg1)) (m ((c : Thread nD τ).loc main_arg4))) := by
  show ((cfgM m hO).win 8).cut ((cfgM m hO).grid.coords t) ((dats m hO 0 c).after 8 t) = _
  rw [after0_8, outs8]
  funext y
  have hy : ∀ y : S1x3x256.Idx, ∃ (z : Fin 1) (r : Fin 3) (d : Fin 256), y = ix3 z r d := fun y => ⟨y 0, y 1, y 2, eq_ix3 y⟩
  obtain ⟨z, r, d, rfl⟩ := hy y
  obtain rfl : z = 0 := Subsingleton.elim _ _
  refine Eq.trans ?_ (congrArg (kcodeR _ _) (emb8 m hO t 0 r d)).symm
  refine (kcodeOut_at _ _ (by rw [ks_eq]; exact hks _) r d).trans ?_
  rw [kn_eq, ks_eq]
  rfl

include hks in
/-- The array of the key codes after the run. -/
theorem final8 : (dats m hO 0 c).arrAt 8 (cfgM m hO).N = kcodeR (m ((c : Thread nD τ).loc main_arg1)) (m ((c : Thread nD τ).loc main_arg4)) :=
  (dats m hO 0 c).arrAt_eq_of_cover 8 (kcodeR (m ((c : Thread nD τ).loc main_arg1)) (m ((c : Thread nD τ).loc main_arg4))) (fun t _ => flushed8 m c hO t hks) (cover8 m hO)

include hvn in
/-- What a point writes of the value codes. -/
theorem flushed9 : (dats m hO 0 c).flushed 9 t = (((cfgM m hO).win 9).blk t).view.read (Elt Ideal)
    (vcodeR (m ((c : Thread nD τ).loc main_arg2))) := by
  show ((cfgM m hO).win 9).cut ((cfgM m hO).grid.coords t) ((dats m hO 0 c).after 9 t) = _
  rw [after0_9, outs9]
  funext y
  have hy : ∀ y : S1x3x256.Idx, ∃ (z : Fin 1) (r : Fin 3) (d : Fin 256), y = ix3 z r d := fun y => ⟨y 0, y 1, y 2, eq_ix3 y⟩
  obtain ⟨z, r, d, rfl⟩ := hy y
  obtain rfl : z = 0 := Subsingleton.elim _ _
  refine Eq.trans ?_ (congrArg (vcodeR _) (emb9 m hO t 0 r d)).symm
  refine (vcodeOut_at _ r (by rw [vn_eq]; exact hvn _) d).trans ?_
  rw [vn_eq]
  rfl

include hvn in
/-- The array of the value codes after the run. -/
theorem final9 : (dats m hO 0 c).arrAt 9 (cfgM m hO).N = vcodeR (m ((c : Thread nD τ).loc main_arg2)) :=
  (dats m hO 0 c).arrAt_eq_of_cover 9 (vcodeR (m ((c : Thread nD τ).loc main_arg2))) (fun t _ => flushed9 m c hO t hvn) (cover9 m hO)

include hvn in
/-- What a point writes of the value scales. -/
theorem flushed10 : (dats m hO 0 c).flushed 10 t = (((cfgM m hO).win 10).blk t).view.read (Elt Ideal)
    (vscaleR (m ((c : Thread nD τ).loc main_arg2))) := by
  show ((cfgM m hO).win 10).cut ((cfgM m hO).grid.coords t) ((dats m hO 0 c).after 10 t) = _
  rw [after0_10, outs10]
  funext y
  have hy : ∀ y : S1x3x4.Idx, ∃ (z : Fin 1) (r : Fin 3) (d : Fin 4), y = ix3 z r d := fun y => ⟨y 0, y 1, y 2, eq_ix3 y⟩
  obtain ⟨z, r, d, rfl⟩ := hy y
  obtain rfl : z = 0 := Subsingleton.elim _ _
  refine Eq.trans ?_ (congrArg (vscaleR _) (emb10 m hO t 0 r d)).symm
  refine (vscaleOut_at _ r (by rw [vn_eq]; exact hvn _) d).trans ?_
  rw [vn_eq]
  rfl

include hvn in
/-- The array of the value scales after the run. -/
theorem final10 : (dats m hO 0 c).arrAt 10 (cfgM m hO).N = vscaleR (m ((c : Thread nD τ).loc main_arg2)) :=
  (dats m hO 0 c).arrAt_eq_of_cover 10 (vscaleR (m ((c : Thread nD τ).loc main_arg2))) (fun t _ => flushed10 m c hO t hvn) (cover10 m hO)

end Cert.KernelIdeal.Arrays

end
-- ==== Proof.Domain.lean ====
module

public import proofs.«01_k».proof.Proof.Gen.Pre_in_range
public import proofs.«01_k».proof.Proof.Range
public import Idealize.ShloMosaic.Lib.Pointwise
public import Idealize.ShloMosaic.Lib.ReduceAll

/-! The stated precondition, read entry by entry. -/

@[expose] public section

set_option maxRecDepth 16384

noncomputable section

namespace Cert.Pre_in_range.Read

open Idealize.ShloMosaic Idealize.ShloMosaic.Tactic
open Cert.Pre_in_range Cert.Pre_in_range.Gen

variable (x0 : FVec Ideal S128x3x32x64 .bf16) (x1 x2 : FVec Ideal S128x3x4x64 .bf16) (x3 : FVec Ideal S128x4096x4x64 .fp8e4m3)
  (x4 : FVec Ideal S128x4x64 .f32) (x5 : FVec Ideal S128x4096x4x64 .fp8e4m3) (x6 : FVec Ideal S128x4096x4 .f32) (x7 : IVec S128 32)

/-- A truth value whose bit is one holds. -/
theorem of_bit {p : Prop} [Decidable p] (h : BitVec.ofBool (decide p) = 1#1) : p := by
  by_contra hp
  rw [decide_eq_false hp] at h
  exact absurd h (by decide)

/-- A scalar has one index. -/
instance : Subsingleton S_.Idx := ⟨fun i j => funext fun a => a.elim0⟩

variable (h : fn x0 x1 x2 x3 x4 x5 x6 x7 = fun _ => 1#1)

include h

/-- The key scales are admitted. -/
theorem ks_ok (b : Fin 128) : Spec.KsOk fun kv d => x4 (ix3 b kv d) := by
  intro kv d
  have e := congrFun h (Shape.Idx.first h_S_)
  dsimp only [fn] at e
  have e1 := Host.reduce_andi_all _ _ _ _ _ (IntOp.andi_eq_one.1 e).1 (ix3 b kv d)
  obtain ⟨a1, a2⟩ := IntOp.andi_eq_one.1 e1
  have b1 : (BitVec.ofBool (decide (Ideal.ofBits .f32 0x00000000#32 ≤ x4 (ix3 b kv d)))) = 1#1 := a1
  have b2 : (BitVec.ofBool (decide (x4 (ix3 b kv d) < Ideal.ofBits .f32 0x7F000000#32))) = 1#1 := a2
  have c1 := of_bit b1
  rw [Ideal.ofBits_zero] at c1
  exact ⟨c1, of_bit b2⟩

/-- The new values are admitted. -/
theorem vn_ok (b : Fin 128) : Spec.VnOk fun t kv d => x2 (ix4 b t kv d) := by
  intro t kv d
  have e := congrFun h (Shape.Idx.first h_S_)
  dsimp only [fn] at e
  have e1 := Host.reduce_andi_all _ _ _ _ _ (IntOp.andi_eq_one.1 e).2 (ix4 b t kv d)
  have b1 : (BitVec.ofBool (decide (max (x2 (ix4 b t kv d)) (-x2 (ix4 b t kv d)) ≤ Ideal.ofBits .f32 0x7F7F0000#32))) = 1#1 := e1
  exact of_bit b1

end Cert.Pre_in_range.Read

end
-- ==== Proof.Equation.lean ====
module

public import proofs.«01_k».proof.Defs
public import proofs.«01_k».proof.Proof.Arrays
public import proofs.«01_k».proof.Proof.Domain
public import Idealize.ShloMosaic.Lib.Claim

/-! The value claim: on the admitted inputs the kernel and the reference leave the same four results. -/

@[expose] public section

set_option maxRecDepth 16384

noncomputable section

open Idealize.ShloMosaic Idealize.ShloMosaic.TcCoe Idealize.SL.Sem

namespace Cert.KernelIdeal.Arrays

open Cert.KernelIdeal Cert.KernelIdeal.Gen
open Cert.ReferenceIdeal.Block (newOf ksOf attnR kcodeR vcodeR vscaleR)

variable (m : (ℓ : Loc nD τ sig) → Buf (Elt Ideal) ℓ) (ρ : Dev nD → PrngReg)

/-- The kernel's run: each result array holds its stated function of the arguments, and the arguments are unchanged. -/
theorem run (hks : ∀ (c : Dev nD) b, Spec.KsOk (ksOf (m ((c : Thread nD τ).loc main_arg4)) b))
    (hvn : ∀ (c : Dev nD) b, Spec.VnOk (newOf (m ((c : Thread nD τ).loc main_arg2)) b)) :
    θ_run defs (onTc (τ := τ) (main (F := Ideal))) ⟨m, fun _ => 0, ρ⟩ fun r => ∀ c : Dev nD,
      r.2.mem ((c : Thread nD τ).loc main_v9_0) = attnR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v9_1) = kcodeR (m ((c : Thread nD τ).loc main_arg1)) (m ((c : Thread nD τ).loc main_arg4))
      ∧ r.2.mem ((c : Thread nD τ).loc main_v9_2) = vcodeR (m ((c : Thread nD τ).loc main_arg2))
      ∧ r.2.mem ((c : Thread nD τ).loc main_v9_3) = vscaleR (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
      ⟨((h.1 c).1 7).trans (final7 m c trivial (hks c) (hvn c)), ((h.1 c).1 8).trans (final8 m c trivial (hks c)),
        ((h.1 c).1 9).trans (final9 m c trivial (hvn c)), ((h.1 c).1 10).trans (final10 m c trivial (hvn c)), h.2 c⟩)
    (θ_run_and (run_main m ρ trivial) (unchanged m ρ trivial))

end Cert.KernelIdeal.Arrays

namespace Cert.Proof

open Cert.ReferenceIdeal.Block (attnR kcodeR vcodeR vscaleR G8_eq G9_eq G10_eq G11_eq)

/-- The value claim. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m ρ m' ρ' hpre hag
  refine ⟨_, _, _, _, Cert.KernelIdeal.Arrays.run m ρ (fun c b => Cert.Pre_in_range.Read.ks_ok _ _ _ _ _ _ _ _ (hpre c) b)
    (fun c b => Cert.Pre_in_range.Read.vn_ok _ _ _ _ _ _ _ _ (hpre c) b), ?_⟩
  refine (θ_run Cert.ReferenceIdeal.defs _ _).mono (fun _ h c => ?_) (Cert.ReferenceIdeal.Value.run (F := Ideal) m' ρ')
  obtain ⟨a0, a1, a2, a3, a4, a5, a6, a7⟩ := hag c
  obtain ⟨h0, h1, h2, h3, hr⟩ := h c
  rw [G8_eq, a0, a1, a2, a3, a4, a5, a6, a7] at h0
  rw [G9_eq, a1, a4] at h1
  rw [G10_eq, a2] at h2
  rw [G11_eq, a2] at h3
  exact ⟨h0, h1, h2, h3, hr⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_in_range
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The certificate: the three frames (two of them once more under the precondition), the idealization and the value claim. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ trivial,
    fun m ρ _ => Cert.KernelIdeal.Gen.frame m ρ trivial,
    fun m ρ _ => Cert.KernelIdeal.Gen.frame m ρ trivial,
    fun m ρ _ => Cert.ReferenceIdeal.Gen.frame m ρ,
    fun m ρ _ => Cert.ReferenceIdeal.Gen.frame m ρ,
    trivial,
    algebraic⟩

end Cert.Proof

end
